-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_shifts [hPre_small_shifts : Cert.Pre_small_shifts.Facts] (m : (ℓ : Loc Cert.KernelIdeal.nD Cert.KernelIdeal.τ Cert.KernelIdeal.sig) → Buf (Elt Ideal) ℓ) : Prop :=
  ∀ c : Dev Cert.KernelIdeal.nD,
    (Cert.Pre_small_shifts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_shifts [hPre_small_shifts : Cert.Pre_small_shifts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_shifts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_small_shifts [hKernelIdeal : Cert.KernelIdeal.Facts] [hPre_small_shifts : Cert.Pre_small_shifts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_shifts m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_small_shifts [hReferenceIdeal : Cert.ReferenceIdeal.Facts] [hPre_small_shifts : Cert.Pre_small_shifts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_shifts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_small_shifts [hKernelIdeal : Cert.KernelIdeal.Facts] [hReferenceIdeal : Cert.ReferenceIdeal.Facts] [hPre_small_shifts : Cert.Pre_small_shifts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_shifts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_small_shifts : Cert.Pre_small_shifts.Facts),
    quiescent_Kernel (hKernel := hKernel)
    ∧ quiescent_KernelIdeal (hKernelIdeal := hKernelIdeal)
    ∧ quiescent_KernelIdeal_pre_small_shifts (hKernelIdeal := hKernelIdeal) (hPre_small_shifts := hPre_small_shifts)
    ∧ quiescent_ReferenceIdeal (hReferenceIdeal := hReferenceIdeal)
    ∧ quiescent_ReferenceIdeal_pre_small_shifts (hReferenceIdeal := hReferenceIdeal) (hPre_small_shifts := hPre_small_shifts)
    ∧ preserves_Kernel_KernelIdeal
    ∧ algebraic_KernelIdeal_ReferenceIdeal_pre_small_shifts (hKernelIdeal := hKernelIdeal) (hReferenceIdeal := hReferenceIdeal) (hPre_small_shifts := hPre_small_shifts)
-- ==== Pre_small_shifts.lean ====
abbrev S8x96x224x224 : Shape := ⟨4, ![8, 96, 224, 224]⟩
abbrev S224 : Shape := ⟨1, ![224]⟩
abbrev S_ : Shape := ⟨0, ![]⟩

class Facts : Prop where
  bcast_S_S224 : S_.BroadcastsInDim S224 (![] : Fin 0 → Fin S224.rank)
  reducesTo_S224_S_d0 : S224.ReducesTo [0] S_
  h_S_ : 0 < S_.numel

variable [Facts]

def fn {F : FTy → Type} [FloatOps F] (main_arg0 : FVec F S8x96x224x224 .f32) (main_arg1 : FVec F S224 .f32) (main_arg2 : FVec F S224 .f32) : IVec S_ 1 :=
  let main_v0 : FVec F S224 .f32 := Host.absf main_arg1
  let main_cst : FVec F S_ .f32 := constant S_ .f32 0x3F800000#32
  let main_v1 : FVec F S224 .f32 := broadcastInDim S224 ![] bcast_S_S224 main_cst
  let main_v2 : IVec S224 1 := cmpf .olt main_v0 main_v1
  let main_c : IVec S_ 1 := constantI S_ 1 1#1
  let main_v3 : IVec S_ 1 := (fun x v => Host.reduce IntOp.andi x v reducesTo_S224_S_d0 h_S_) main_v2 main_c
  let main_v4 : FVec F S224 .f32 := Host.absf main_arg2
  let main_cst_0 : FVec F S_ .f32 := constant S_ .f32 0x41100000#32
  let main_v5 : FVec F S224 .f32 := broadcastInDim S224 ![] bcast_S_S224 main_cst_0
  let main_v6 : IVec S224 1 := cmpf .olt main_v4 main_v5
  let main_c_1 : IVec S_ 1 := constantI S_ 1 1#1
  let main_v7 : IVec S_ 1 := (fun x v => Host.reduce IntOp.andi x v reducesTo_S224_S_d0 h_S_) main_v6 main_c_1
  let main_v8 : IVec S_ 1 := andi main_v3 main_v7
  main_v8
-- ==== Kernel.lean ====
abbrev S8x96x224x224 : Shape := ⟨4, ![8, 96, 224, 224]⟩
abbrev S224 : Shape := ⟨1, ![224]⟩
abbrev S120x224 : Shape := ⟨2, ![120, 224]⟩
abbrev S112x224 : Shape := ⟨2, ![112, 224]⟩
abbrev S_ : Shape := ⟨0, ![]⟩
abbrev S16 : Shape := ⟨1, ![16]⟩
abbrev S1 : Shape := ⟨1, ![1]⟩
abbrev S1x1x120x224 : Shape := ⟨4, ![1, 1, 120, 224]⟩
abbrev S1x1x112x224 : Shape := ⟨4, ![1, 1, 112, 224]⟩
abbrev S1x16 : Shape := ⟨2, ![1, 16]⟩

abbrev nBuf : Table → Nat
  | .hbm => 4
  | .local .scVector .smem => 1
  | .local .scVector .vmem => 6
  | _ => 0

abbrev bufTy : (tb : Table) → Fin (nBuf tb) → BufTy
  | .hbm, ⟨0, _⟩ => ⟨S8x96x224x224, .f32⟩
  | .hbm, ⟨1, _⟩ => ⟨S224, .f32⟩
  | .hbm, ⟨2, _⟩ => ⟨S224, .f32⟩
  | .hbm, ⟨3, _⟩ => ⟨S8x96x224x224, .f32⟩
  | .local .scVector .smem, ⟨0, _⟩ => ⟨S224, .i32⟩
  | .local .scVector .vmem, ⟨0, _⟩ => ⟨S224, .f32⟩
  | .local .scVector .vmem, ⟨1, _⟩ => ⟨S224, .i32⟩
  | .local .scVector .vmem, ⟨2, _⟩ => ⟨S120x224, .f32⟩
  | .local .scVector .vmem, ⟨3, _⟩ => ⟨S120x224, .f32⟩
  | .local .scVector .vmem, ⟨4, _⟩ => ⟨S112x224, .f32⟩
  | .local .scVector .vmem, ⟨5, _⟩ => ⟨S112x224, .f32⟩
  | _, _ => ⟨S8x96x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg2_scv : Ref sig .scVector := ⟨.hbm, 2, rfl⟩
abbrev main_v0_scv : Ref sig .scVector := ⟨.hbm, 3, rfl⟩
abbrev cc0_scratch2 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch3 : Ref sig .scVector := ⟨.vmem, 2, rfl⟩
abbrev cc0_scratch4 : Ref sig .scVector := ⟨.vmem, 3, rfl⟩
abbrev cc0_scratch5 : Ref sig .scVector := ⟨.vmem, 4, rfl⟩
abbrev cc0_scratch6 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_128 : BitVec 32 := 0#32
  let v1180 : BitVec 1 := Scalar.cmpi .sgt v2 c0_i32_128
  let v1181 : BitVec 32 := Scalar.extui v1180
  let c0_i32_129 : BitVec 32 := 0#32
  let v1182 : BitVec 1 := Scalar.cmpi .slt v2 c0_i32_129
  let v1183 : BitVec 32 := Scalar.extui v1182
  let v1184 : BitVec 32 := Scalar.subi v1181 v1183
  let c96_i32_127 : BitVec 32 := 96#32
  let c0_i32_130 : BitVec 32 := 0#32
  let v1185 : BitVec 1 := Scalar.cmpi .sgt c96_i32_127 c0_i32_130
  let v1186 : BitVec 32 := Scalar.extui v1185
  let c0_i32_131 : BitVec 32 := 0#32
  let v1187 : BitVec 1 := Scalar.cmpi .slt c96_i32_127 c0_i32_131
  let v1188 : BitVec 32 := Scalar.extui v1187
  let v1189 : BitVec 32 := Scalar.subi v1186 v1188
  let v1190 : BitVec 1 := Scalar.cmpi .ne v1184 v1189
  let v1191 : BitVec 32 := Scalar.remsi v2 c96_i32_127
  let c0_i32_132 : BitVec 32 := 0#32
  let v1192 : BitVec 1 := Scalar.cmpi .ne v1191 c0_i32_132
  let v1193 : BitVec 1 := Scalar.andi v1190 v1192
  let v1179 : BitVec 32 := Scalar.divsi v2 c96_i32_127
  let c1_i32_133 : BitVec 32 := 1#32
  let v1194 : BitVec 32 := Scalar.subi v1179 c1_i32_133
  let v1195 : BitVec 32 := Scalar.select v1193 v1194 v1179
  let c96_i32_134 : BitVec 32 := 96#32
  let c0_i32_135 : BitVec 32 := 0#32
  let v1196 : BitVec 1 := Scalar.cmpi .eq c96_i32_134 c0_i32_135
  let c1_i32_136 : BitVec 32 := 1#32
  let v1197 : BitVec 32 := Scalar.select v1196 c1_i32_136 c96_i32_134
  let v1198 : BitVec 32 := Scalar.remsi v2 v1197
  let c0_i32_138 : BitVec 32 := 0#32
  let v1200 : BitVec 1 := Scalar.cmpi .slt v1198 c0_i32_138
  let c0_i32_139 : BitVec 32 := 0#32
  let v1201 : BitVec 1 := Scalar.cmpi .slt v1197 c0_i32_139
  let v1202 : BitVec 1 := Scalar.xori v1200 v1201
  let c0_i32_137 : BitVec 32 := 0#32
  let v1199 : BitVec 1 := Scalar.cmpi .ne v1198 c0_i32_137
  let v1203 : BitVec 1 := Scalar.andi v1202 v1199
  let v1204 : BitVec 32 := Scalar.addi v1198 v1197
  let v1205 : BitVec 32 := Scalar.select v1203 v1204 v1198
  let c0_i32_140 : BitVec 32 := 0#32
  let c0_i32_141 : BitVec 32 := 0#32
  ![v1195.toNat, v1205.toNat, 0, 0]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_145 : BitVec 32 := 0#32
  let v1211 : BitVec 1 := Scalar.cmpi .sgt v2 c0_i32_145
  let v1212 : BitVec 32 := Scalar.extui v1211
  let c0_i32_146 : BitVec 32 := 0#32
  let v1213 : BitVec 1 := Scalar.cmpi .slt v2 c0_i32_146
  let v1214 : BitVec 32 := Scalar.extui v1213
  let v1215 : BitVec 32 := Scalar.subi v1212 v1214
  let c96_i32_144 : BitVec 32 := 96#32
  let c0_i32_147 : BitVec 32 := 0#32
  let v1216 : BitVec 1 := Scalar.cmpi .sgt c96_i32_144 c0_i32_147
  let v1217 : BitVec 32 := Scalar.extui v1216
  let c0_i32_148 : BitVec 32 := 0#32
  let v1218 : BitVec 1 := Scalar.cmpi .slt c96_i32_144 c0_i32_148
  let v1219 : BitVec 32 := Scalar.extui v1218
  let v1220 : BitVec 32 := Scalar.subi v1217 v1219
  let v1221 : BitVec 1 := Scalar.cmpi .ne v1215 v1220
  let v1222 : BitVec 32 := Scalar.remsi v2 c96_i32_144
  let c0_i32_149 : BitVec 32 := 0#32
  let v1223 : BitVec 1 := Scalar.cmpi .ne v1222 c0_i32_149
  let v1224 : BitVec 1 := Scalar.andi v1221 v1223
  let v1210 : BitVec 32 := Scalar.divsi v2 c96_i32_144
  let c1_i32_150 : BitVec 32 := 1#32
  let v1225 : BitVec 32 := Scalar.subi v1210 c1_i32_150
  let v1226 : BitVec 32 := Scalar.select v1224 v1225 v1210
  let c96_i32_151 : BitVec 32 := 96#32
  let c0_i32_152 : BitVec 32 := 0#32
  let v1227 : BitVec 1 := Scalar.cmpi .eq c96_i32_151 c0_i32_152
  let c1_i32_153 : BitVec 32 := 1#32
  let v1228 : BitVec 32 := Scalar.select v1227 c1_i32_153 c96_i32_151
  let v1229 : BitVec 32 := Scalar.remsi v2 v1228
  let c0_i32_155 : BitVec 32 := 0#32
  let v1231 : BitVec 1 := Scalar.cmpi .slt v1229 c0_i32_155
  let c0_i32_156 : BitVec 32 := 0#32
  let v1232 : BitVec 1 := Scalar.cmpi .slt v1228 c0_i32_156
  let v1233 : BitVec 1 := Scalar.xori v1231 v1232
  let c0_i32_154 : BitVec 32 := 0#32
  let v1230 : BitVec 1 := Scalar.cmpi .ne v1229 c0_i32_154
  let v1234 : BitVec 1 := Scalar.andi v1233 v1230
  let v1235 : BitVec 32 := Scalar.addi v1229 v1228
  let v1236 : BitVec 32 := Scalar.select v1234 v1235 v1229
  let c104_i32_157 : BitVec 32 := 104#32
  let c0_i32_158 : BitVec 32 := 0#32
  ![v1226.toNat, v1236.toNat, 104, 0]
@[reducible] def k0_t1_loop : Scf.Loop 32 :=
  let c0_i32_162 : BitVec 32 := 0#32
  let c24_i32_163 : BitVec 32 := 24#32
  let v1241 : BitVec 32 := Scalar.addi c0_i32_162 c24_i32_163
  let c1_i32_164 : BitVec 32 := 1#32
  ⟨c0_i32_162, v1241, c1_i32_164⟩
def k0_off3 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_162 : BitVec 32 := 0#32
  let c1_i32_164 : BitVec 32 := 1#32
  let arg16 : BitVec 32 := Scf.iv c0_i32_162 c1_i32_164 k0_t1
  let v1309 : BitVec 32 := Scalar.addi v2 arg16
  let c0_i32_205 : BitVec 32 := 0#32
  let v1311 : BitVec 1 := Scalar.cmpi .sgt v1309 c0_i32_205
  let v1312 : BitVec 32 := Scalar.extui v1311
  let c0_i32_206 : BitVec 32 := 0#32
  let v1313 : BitVec 1 := Scalar.cmpi .slt v1309 c0_i32_206
  let v1314 : BitVec 32 := Scalar.extui v1313
  let v1315 : BitVec 32 := Scalar.subi v1312 v1314
  let c96_i32_204 : BitVec 32 := 96#32
  let c0_i32_207 : BitVec 32 := 0#32
  let v1316 : BitVec 1 := Scalar.cmpi .sgt c96_i32_204 c0_i32_207
  let v1317 : BitVec 32 := Scalar.extui v1316
  let c0_i32_208 : BitVec 32 := 0#32
  let v1318 : BitVec 1 := Scalar.cmpi .slt c96_i32_204 c0_i32_208
  let v1319 : BitVec 32 := Scalar.extui v1318
  let v1320 : BitVec 32 := Scalar.subi v1317 v1319
  let v1321 : BitVec 1 := Scalar.cmpi .ne v1315 v1320
  let v1322 : BitVec 32 := Scalar.remsi v1309 c96_i32_204
  let c0_i32_209 : BitVec 32 := 0#32
  let v1323 : BitVec 1 := Scalar.cmpi .ne v1322 c0_i32_209
  let v1324 : BitVec 1 := Scalar.andi v1321 v1323
  let v1310 : BitVec 32 := Scalar.divsi v1309 c96_i32_204
  let c1_i32_210 : BitVec 32 := 1#32
  let v1325 : BitVec 32 := Scalar.subi v1310 c1_i32_210
  let v1326 : BitVec 32 := Scalar.select v1324 v1325 v1310
  let c96_i32_211 : BitVec 32 := 96#32
  let c0_i32_212 : BitVec 32 := 0#32
  let v1327 : BitVec 1 := Scalar.cmpi .eq c96_i32_211 c0_i32_212
  let c1_i32_213 : BitVec 32 := 1#32
  let v1328 : BitVec 32 := Scalar.select v1327 c1_i32_213 c96_i32_211
  let v1329 : BitVec 32 := Scalar.remsi v1309 v1328
  let c0_i32_215 : BitVec 32 := 0#32
  let v1331 : BitVec 1 := Scalar.cmpi .slt v1329 c0_i32_215
  let c0_i32_216 : BitVec 32 := 0#32
  let v1332 : BitVec 1 := Scalar.cmpi .slt v1328 c0_i32_216
  let v1333 : BitVec 1 := Scalar.xori v1331 v1332
  let c0_i32_214 : BitVec 32 := 0#32
  let v1330 : BitVec 1 := Scalar.cmpi .ne v1329 c0_i32_214
  let v1334 : BitVec 1 := Scalar.andi v1333 v1330
  let v1335 : BitVec 32 := Scalar.addi v1329 v1328
  let v1336 : BitVec 32 := Scalar.select v1334 v1335 v1329
  let c0_i32_217 : BitVec 32 := 0#32
  let c0_i32_218 : BitVec 32 := 0#32
  ![v1326.toNat, v1336.toNat, 0, 0]
def k0_cond1 (k0_t1 : Fin k0_t1_loop.trips) : BitVec 1 :=
  let c0_i32_162 : BitVec 32 := 0#32
  let c1_i32_164 : BitVec 32 := 1#32
  let arg16 : BitVec 32 := Scf.iv c0_i32_162 c1_i32_164 k0_t1
  let c0_i32_221 : BitVec 32 := 0#32
  let v1341 : BitVec 1 := Scalar.cmpi .sgt arg16 c0_i32_221
  let v1342 : BitVec 32 := Scalar.extui v1341
  let c0_i32_222 : BitVec 32 := 0#32
  let v1343 : BitVec 1 := Scalar.cmpi .ne v1342 c0_i32_222
  v1343

def k0_off4 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_162 : BitVec 32 := 0#32
  let c1_i32_164 : BitVec 32 := 1#32
  let arg16 : BitVec 32 := Scf.iv c0_i32_162 c1_i32_164 k0_t1
  let v1309 : BitVec 32 := Scalar.addi v2 arg16
  let c1_i32_291 : BitVec 32 := 1#32
  let v1450 : BitVec 32 := Scalar.subi v1309 c1_i32_291
  let c0_i32_293 : BitVec 32 := 0#32
  let v1452 : BitVec 1 := Scalar.cmpi .sgt v1450 c0_i32_293
  let v1453 : BitVec 32 := Scalar.extui v1452
  let c0_i32_294 : BitVec 32 := 0#32
  let v1454 : BitVec 1 := Scalar.cmpi .slt v1450 c0_i32_294
  let v1455 : BitVec 32 := Scalar.extui v1454
  let v1456 : BitVec 32 := Scalar.subi v1453 v1455
  let c96_i32_292 : BitVec 32 := 96#32
  let c0_i32_295 : BitVec 32 := 0#32
  let v1457 : BitVec 1 := Scalar.cmpi .sgt c96_i32_292 c0_i32_295
  let v1458 : BitVec 32 := Scalar.extui v1457
  let c0_i32_296 : BitVec 32 := 0#32
  let v1459 : BitVec 1 := Scalar.cmpi .slt c96_i32_292 c0_i32_296
  let v1460 : BitVec 32 := Scalar.extui v1459
  let v1461 : BitVec 32 := Scalar.subi v1458 v1460
  let v1462 : BitVec 1 := Scalar.cmpi .ne v1456 v1461
  let v1463 : BitVec 32 := Scalar.remsi v1450 c96_i32_292
  let c0_i32_297 : BitVec 32 := 0#32
  let v1464 : BitVec 1 := Scalar.cmpi .ne v1463 c0_i32_297
  let v1465 : BitVec 1 := Scalar.andi v1462 v1464
  let v1451 : BitVec 32 := Scalar.divsi v1450 c96_i32_292
  let c1_i32_298 : BitVec 32 := 1#32
  let v1466 : BitVec 32 := Scalar.subi v1451 c1_i32_298
  let v1467 : BitVec 32 := Scalar.select v1465 v1466 v1451
  let c96_i32_299 : BitVec 32 := 96#32
  let c0_i32_300 : BitVec 32 := 0#32
  let v1468 : BitVec 1 := Scalar.cmpi .eq c96_i32_299 c0_i32_300
  let c1_i32_301 : BitVec 32 := 1#32
  let v1469 : BitVec 32 := Scalar.select v1468 c1_i32_301 c96_i32_299
  let v1470 : BitVec 32 := Scalar.remsi v1450 v1469
  let c0_i32_303 : BitVec 32 := 0#32
  let v1472 : BitVec 1 := Scalar.cmpi .slt v1470 c0_i32_303
  let c0_i32_304 : BitVec 32 := 0#32
  let v1473 : BitVec 1 := Scalar.cmpi .slt v1469 c0_i32_304
  let v1474 : BitVec 1 := Scalar.xori v1472 v1473
  let c0_i32_302 : BitVec 32 := 0#32
  let v1471 : BitVec 1 := Scalar.cmpi .ne v1470 c0_i32_302
  let v1475 : BitVec 1 := Scalar.andi v1474 v1471
  let v1476 : BitVec 32 := Scalar.addi v1470 v1469
  let v1477 : BitVec 32 := Scalar.select v1475 v1476 v1470
  let c0_i32_305 : BitVec 32 := 0#32
  let c0_i32_306 : BitVec 32 := 0#32
  ![v1467.toNat, v1477.toNat, 0, 0]
@[reducible] def k0_t2_loop : Scf.Loop 32 :=
  let c0_i32_223 : BitVec 32 := 0#32
  let c112_i32_224 : BitVec 32 := 112#32
  let v1344 : BitVec 32 := Scalar.addi c0_i32_223 c112_i32_224
  let c1_i32_225 : BitVec 32 := 1#32
  ⟨c0_i32_223, v1344, c1_i32_225⟩
def k0_off5 (k0_t2 : Fin k0_t2_loop.trips) : Fin 1 → Nat :=
  let c0_i32_293 : BitVec 32 := 0#32
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1452 : BitVec 32 := Scalar.addi c0_i32_293 v1451
  let v1453 : Index := Scalar.indexCast v1452
  ![v1453.toNat]
def k0_off6 (v1454 : BitVec 32) : Fin 2 → Nat :=
  let v1455 : Index := Scalar.indexCast v1454
  let c0_294 : Index := 0#32
  ![v1455.toNat, 0]

def k0_off7 (k0_t2 : Fin k0_t2_loop.trips) : Fin 2 → Nat :=
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1457 : Index := Scalar.indexCast v1451
  let c0_295 : Index := 0#32
  ![v1457.toNat, 0]
def k0_off8 (v1454 : BitVec 32) : Fin 2 → Nat :=
  let v1459 : Index := Scalar.indexCast v1454
  let c16_296 : Index := 16#32
  ![v1459.toNat, 16]
def k0_off9 (k0_t2 : Fin k0_t2_loop.trips) : Fin 2 → Nat :=
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1461 : Index := Scalar.indexCast v1451
  let c16_297 : Index := 16#32
  ![v1461.toNat, 16]
def k0_off10 (v1454 : BitVec 32) : Fin 2 → Nat :=
  let v1463 : Index := Scalar.indexCast v1454
  let c32_298 : Index := 32#32
  ![v1463.toNat, 32]
def k0_off11 (k0_t2 : Fin k0_t2_loop.trips) : Fin 2 → Nat :=
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1465 : Index := Scalar.indexCast v1451
  let c32_299 : Index := 32#32
  ![v1465.toNat, 32]
def k0_off12 (v1454 : BitVec 32) : Fin 2 → Nat :=
  let v1467 : Index := Scalar.indexCast v1454
  let c48_300 : Index := 48#32
  ![v1467.toNat, 48]
def k0_off13 (k0_t2 : Fin k0_t2_loop.trips) : Fin 2 → Nat :=
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1469 : Index := Scalar.indexCast v1451
  let c48_301 : Index := 48#32
  ![v1469.toNat, 48]
def k0_off14 (v1454 : BitVec 32) : Fin 2 → Nat :=
  let v1471 : Index := Scalar.indexCast v1454
  let c64_302 : Index := 64#32
  ![v1471.toNat, 64]
def k0_off15 (k0_t2 : Fin k0_t2_loop.trips) : Fin 2 → Nat :=
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1473 : Index := Scalar.indexCast v1451
  let c64_303 : Index := 64#32
  ![v1473.toNat, 64]
def k0_off16 (v1454 : BitVec 32) : Fin 2 → Nat :=
  let v1475 : Index := Scalar.indexCast v1454
  let c80_304 : Index := 80#32
  ![v1475.toNat, 80]
def k0_off17 (k0_t2 : Fin k0_t2_loop.trips) : Fin 2 → Nat :=
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1477 : Index := Scalar.indexCast v1451
  let c80_305 : Index := 80#32
  ![v1477.toNat, 80]
def k0_off18 (v1454 : BitVec 32) : Fin 2 → Nat :=
  let v1479 : Index := Scalar.indexCast v1454
  let c96_306 : Index := 96#32
  ![v1479.toNat, 96]
def k0_off19 (k0_t2 : Fin k0_t2_loop.trips) : Fin 2 → Nat :=
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1481 : Index := Scalar.indexCast v1451
  let c96_307 : Index := 96#32
  ![v1481.toNat, 96]
def k0_off20 (v1454 : BitVec 32) : Fin 2 → Nat :=
  let v1483 : Index := Scalar.indexCast v1454
  let c112_308 : Index := 112#32
  ![v1483.toNat, 112]
def k0_off21 (k0_t2 : Fin k0_t2_loop.trips) : Fin 2 → Nat :=
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1485 : Index := Scalar.indexCast v1451
  let c112_309 : Index := 112#32
  ![v1485.toNat, 112]
def k0_off22 (v1454 : BitVec 32) : Fin 2 → Nat :=
  let v1487 : Index := Scalar.indexCast v1454
  let c128_310 : Index := 128#32
  ![v1487.toNat, 128]
def k0_off23 (k0_t2 : Fin k0_t2_loop.trips) : Fin 2 → Nat :=
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1489 : Index := Scalar.indexCast v1451
  let c128_311 : Index := 128#32
  ![v1489.toNat, 128]
def k0_off24 (v1454 : BitVec 32) : Fin 2 → Nat :=
  let v1491 : Index := Scalar.indexCast v1454
  let c144_312 : Index := 144#32
  ![v1491.toNat, 144]
def k0_off25 (k0_t2 : Fin k0_t2_loop.trips) : Fin 2 → Nat :=
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1493 : Index := Scalar.indexCast v1451
  let c144_313 : Index := 144#32
  ![v1493.toNat, 144]
def k0_off26 (v1454 : BitVec 32) : Fin 2 → Nat :=
  let v1495 : Index := Scalar.indexCast v1454
  let c160_314 : Index := 160#32
  ![v1495.toNat, 160]
def k0_off27 (k0_t2 : Fin k0_t2_loop.trips) : Fin 2 → Nat :=
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1497 : Index := Scalar.indexCast v1451
  let c160_315 : Index := 160#32
  ![v1497.toNat, 160]
def k0_off28 (v1454 : BitVec 32) : Fin 2 → Nat :=
  let v1499 : Index := Scalar.indexCast v1454
  let c176_316 : Index := 176#32
  ![v1499.toNat, 176]
def k0_off29 (k0_t2 : Fin k0_t2_loop.trips) : Fin 2 → Nat :=
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1501 : Index := Scalar.indexCast v1451
  let c176_317 : Index := 176#32
  ![v1501.toNat, 176]
def k0_off30 (v1454 : BitVec 32) : Fin 2 → Nat :=
  let v1503 : Index := Scalar.indexCast v1454
  let c192_318 : Index := 192#32
  ![v1503.toNat, 192]
def k0_off31 (k0_t2 : Fin k0_t2_loop.trips) : Fin 2 → Nat :=
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1505 : Index := Scalar.indexCast v1451
  let c192_319 : Index := 192#32
  ![v1505.toNat, 192]
def k0_off32 (v1454 : BitVec 32) : Fin 2 → Nat :=
  let v1507 : Index := Scalar.indexCast v1454
  let c208_320 : Index := 208#32
  ![v1507.toNat, 208]

def k0_chk1 (v1454 : BitVec 32) : Prop :=
  (∀ a, (k0_off6 v1454) a + S1x16.size a ≤ S120x224.size a) ∧
  (∀ a, (k0_off8 v1454) a + S1x16.size a ≤ S120x224.size a) ∧
  (∀ a, (k0_off10 v1454) a + S1x16.size a ≤ S120x224.size a) ∧
  (∀ a, (k0_off12 v1454) a + S1x16.size a ≤ S120x224.size a) ∧
  (∀ a, (k0_off14 v1454) a + S1x16.size a ≤ S120x224.size a) ∧
  (∀ a, (k0_off16 v1454) a + S1x16.size a ≤ S120x224.size a) ∧
  (∀ a, (k0_off18 v1454) a + S1x16.size a ≤ S120x224.size a) ∧
  (∀ a, (k0_off20 v1454) a + S1x16.size a ≤ S120x224.size a) ∧
  (∀ a, (k0_off22 v1454) a + S1x16.size a ≤ S120x224.size a) ∧
  (∀ a, (k0_off24 v1454) a + S1x16.size a ≤ S120x224.size a) ∧
  (∀ a, (k0_off26 v1454) a + S1x16.size a ≤ S120x224.size a) ∧
  (∀ a, (k0_off28 v1454) a + S1x16.size a ≤ S120x224.size a) ∧
  (∀ a, (k0_off30 v1454) a + S1x16.size a ≤ S120x224.size a) ∧
  (∀ a, (k0_off32 v1454) a + S1x16.size a ≤ S120x224.size a)
theorem k0_off6_inb : ∀ (v1454 : BitVec 32) (k0_hw1 : k0_chk1 v1454), ∀ a, (k0_off6 v1454) a + S1x16.size a ≤ S120x224.size a := fun v1454 k0_hw1 => k0_hw1.1
theorem k0_off8_inb : ∀ (v1454 : BitVec 32) (k0_hw1 : k0_chk1 v1454), ∀ a, (k0_off8 v1454) a + S1x16.size a ≤ S120x224.size a := fun v1454 k0_hw1 => k0_hw1.2.1
theorem k0_off10_inb : ∀ (v1454 : BitVec 32) (k0_hw1 : k0_chk1 v1454), ∀ a, (k0_off10 v1454) a + S1x16.size a ≤ S120x224.size a := fun v1454 k0_hw1 => k0_hw1.2.2.1
theorem k0_off12_inb : ∀ (v1454 : BitVec 32) (k0_hw1 : k0_chk1 v1454), ∀ a, (k0_off12 v1454) a + S1x16.size a ≤ S120x224.size a := fun v1454 k0_hw1 => k0_hw1.2.2.2.1
theorem k0_off14_inb : ∀ (v1454 : BitVec 32) (k0_hw1 : k0_chk1 v1454), ∀ a, (k0_off14 v1454) a + S1x16.size a ≤ S120x224.size a := fun v1454 k0_hw1 => k0_hw1.2.2.2.2.1
theorem k0_off16_inb : ∀ (v1454 : BitVec 32) (k0_hw1 : k0_chk1 v1454), ∀ a, (k0_off16 v1454) a + S1x16.size a ≤ S120x224.size a := fun v1454 k0_hw1 => k0_hw1.2.2.2.2.2.1
theorem k0_off18_inb : ∀ (v1454 : BitVec 32) (k0_hw1 : k0_chk1 v1454), ∀ a, (k0_off18 v1454) a + S1x16.size a ≤ S120x224.size a := fun v1454 k0_hw1 => k0_hw1.2.2.2.2.2.2.1
theorem k0_off20_inb : ∀ (v1454 : BitVec 32) (k0_hw1 : k0_chk1 v1454), ∀ a, (k0_off20 v1454) a + S1x16.size a ≤ S120x224.size a := fun v1454 k0_hw1 => k0_hw1.2.2.2.2.2.2.2.1
theorem k0_off22_inb : ∀ (v1454 : BitVec 32) (k0_hw1 : k0_chk1 v1454), ∀ a, (k0_off22 v1454) a + S1x16.size a ≤ S120x224.size a := fun v1454 k0_hw1 => k0_hw1.2.2.2.2.2.2.2.2.1
theorem k0_off24_inb : ∀ (v1454 : BitVec 32) (k0_hw1 : k0_chk1 v1454), ∀ a, (k0_off24 v1454) a + S1x16.size a ≤ S120x224.size a := fun v1454 k0_hw1 => k0_hw1.2.2.2.2.2.2.2.2.2.1
theorem k0_off26_inb : ∀ (v1454 : BitVec 32) (k0_hw1 : k0_chk1 v1454), ∀ a, (k0_off26 v1454) a + S1x16.size a ≤ S120x224.size a := fun v1454 k0_hw1 => k0_hw1.2.2.2.2.2.2.2.2.2.2.1
theorem k0_off28_inb : ∀ (v1454 : BitVec 32) (k0_hw1 : k0_chk1 v1454), ∀ a, (k0_off28 v1454) a + S1x16.size a ≤ S120x224.size a := fun v1454 k0_hw1 => k0_hw1.2.2.2.2.2.2.2.2.2.2.2.1
theorem k0_off30_inb : ∀ (v1454 : BitVec 32) (k0_hw1 : k0_chk1 v1454), ∀ a, (k0_off30 v1454) a + S1x16.size a ≤ S120x224.size a := fun v1454 k0_hw1 => k0_hw1.2.2.2.2.2.2.2.2.2.2.2.2.1
theorem k0_off32_inb : ∀ (v1454 : BitVec 32) (k0_hw1 : k0_chk1 v1454), ∀ a, (k0_off32 v1454) a + S1x16.size a ≤ S120x224.size a := fun v1454 k0_hw1 => k0_hw1.2.2.2.2.2.2.2.2.2.2.2.2.2

def k0_off33 (k0_t2 : Fin k0_t2_loop.trips) : Fin 2 → Nat :=
  let c0_i32_292 : BitVec 32 := 0#32
  let c0_i32_223 : BitVec 32 := 0#32
  let c1_i32_225 : BitVec 32 := 1#32
  let arg18 : BitVec 32 := Scf.iv c0_i32_223 c1_i32_225 k0_t2
  let c1_i32_291 : BitVec 32 := 1#32
  let v1450 : BitVec 32 := Scalar.muli arg18 c1_i32_291
  let v1451 : BitVec 32 := Scalar.addi c0_i32_292 v1450
  let v1509 : Index := Scalar.indexCast v1451
  let c208_321 : Index := 208#32
  ![v1509.toNat, 208]
def k0_off34 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_162 : BitVec 32 := 0#32
  let c1_i32_164 : BitVec 32 := 1#32
  let arg16 : BitVec 32 := Scf.iv c0_i32_162 c1_i32_164 k0_t1
  let v1309 : BitVec 32 := Scalar.addi v2 arg16
  let c0_i32_228 : BitVec 32 := 0#32
  let v1346 : BitVec 1 := Scalar.cmpi .sgt v1309 c0_i32_228
  let v1347 : BitVec 32 := Scalar.extui v1346
  let c0_i32_229 : BitVec 32 := 0#32
  let v1348 : BitVec 1 := Scalar.cmpi .slt v1309 c0_i32_229
  let v1349 : BitVec 32 := Scalar.extui v1348
  let v1350 : BitVec 32 := Scalar.subi v1347 v1349
  let c96_i32_227 : BitVec 32 := 96#32
  let c0_i32_230 : BitVec 32 := 0#32
  let v1351 : BitVec 1 := Scalar.cmpi .sgt c96_i32_227 c0_i32_230
  let v1352 : BitVec 32 := Scalar.extui v1351
  let c0_i32_231 : BitVec 32 := 0#32
  let v1353 : BitVec 1 := Scalar.cmpi .slt c96_i32_227 c0_i32_231
  let v1354 : BitVec 32 := Scalar.extui v1353
  let v1355 : BitVec 32 := Scalar.subi v1352 v1354
  let v1356 : BitVec 1 := Scalar.cmpi .ne v1350 v1355
  let v1357 : BitVec 32 := Scalar.remsi v1309 c96_i32_227
  let c0_i32_232 : BitVec 32 := 0#32
  let v1358 : BitVec 1 := Scalar.cmpi .ne v1357 c0_i32_232
  let v1359 : BitVec 1 := Scalar.andi v1356 v1358
  let v1345 : BitVec 32 := Scalar.divsi v1309 c96_i32_227
  let c1_i32_233 : BitVec 32 := 1#32
  let v1360 : BitVec 32 := Scalar.subi v1345 c1_i32_233
  let v1361 : BitVec 32 := Scalar.select v1359 v1360 v1345
  let c96_i32_234 : BitVec 32 := 96#32
  let c0_i32_235 : BitVec 32 := 0#32
  let v1362 : BitVec 1 := Scalar.cmpi .eq c96_i32_234 c0_i32_235
  let c1_i32_236 : BitVec 32 := 1#32
  let v1363 : BitVec 32 := Scalar.select v1362 c1_i32_236 c96_i32_234
  let v1364 : BitVec 32 := Scalar.remsi v1309 v1363
  let c0_i32_238 : BitVec 32 := 0#32
  let v1366 : BitVec 1 := Scalar.cmpi .slt v1364 c0_i32_238
  let c0_i32_239 : BitVec 32 := 0#32
  let v1367 : BitVec 1 := Scalar.cmpi .slt v1363 c0_i32_239
  let v1368 : BitVec 1 := Scalar.xori v1366 v1367
  let c0_i32_237 : BitVec 32 := 0#32
  let v1365 : BitVec 1 := Scalar.cmpi .ne v1364 c0_i32_237
  let v1369 : BitVec 1 := Scalar.andi v1368 v1365
  let v1370 : BitVec 32 := Scalar.addi v1364 v1363
  let v1371 : BitVec 32 := Scalar.select v1369 v1370 v1364
  let c0_i32_240 : BitVec 32 := 0#32
  let c0_i32_241 : BitVec 32 := 0#32
  ![v1361.toNat, v1371.toNat, 0, 0]
def k0_cond2 (k0_t1 : Fin k0_t1_loop.trips) : BitVec 1 :=
  let c0_i32_162 : BitVec 32 := 0#32
  let c1_i32_164 : BitVec 32 := 1#32
  let arg16 : BitVec 32 := Scf.iv c0_i32_162 c1_i32_164 k0_t1
  let c1_i32_244 : BitVec 32 := 1#32
  let v1376 : BitVec 32 := Scalar.addi arg16 c1_i32_244
  let c24_i32_245 : BitVec 32 := 24#32
  let v1377 : BitVec 1 := Scalar.cmpi .slt v1376 c24_i32_245
  let v1378 : BitVec 32 := Scalar.extui v1377
  let c0_i32_246 : BitVec 32 := 0#32
  let v1379 : BitVec 1 := Scalar.cmpi .ne v1378 c0_i32_246
  v1379

def k0_off35 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_162 : BitVec 32 := 0#32
  let c1_i32_164 : BitVec 32 := 1#32
  let arg16 : BitVec 32 := Scf.iv c0_i32_162 c1_i32_164 k0_t1
  let v1309 : BitVec 32 := Scalar.addi v2 arg16
  let c1_i32_291 : BitVec 32 := 1#32
  let v1450 : BitVec 32 := Scalar.addi v1309 c1_i32_291
  let c0_i32_293 : BitVec 32 := 0#32
  let v1452 : BitVec 1 := Scalar.cmpi .sgt v1450 c0_i32_293
  let v1453 : BitVec 32 := Scalar.extui v1452
  let c0_i32_294 : BitVec 32 := 0#32
  let v1454 : BitVec 1 := Scalar.cmpi .slt v1450 c0_i32_294
  let v1455 : BitVec 32 := Scalar.extui v1454
  let v1456 : BitVec 32 := Scalar.subi v1453 v1455
  let c96_i32_292 : BitVec 32 := 96#32
  let c0_i32_295 : BitVec 32 := 0#32
  let v1457 : BitVec 1 := Scalar.cmpi .sgt c96_i32_292 c0_i32_295
  let v1458 : BitVec 32 := Scalar.extui v1457
  let c0_i32_296 : BitVec 32 := 0#32
  let v1459 : BitVec 1 := Scalar.cmpi .slt c96_i32_292 c0_i32_296
  let v1460 : BitVec 32 := Scalar.extui v1459
  let v1461 : BitVec 32 := Scalar.subi v1458 v1460
  let v1462 : BitVec 1 := Scalar.cmpi .ne v1456 v1461
  let v1463 : BitVec 32 := Scalar.remsi v1450 c96_i32_292
  let c0_i32_297 : BitVec 32 := 0#32
  let v1464 : BitVec 1 := Scalar.cmpi .ne v1463 c0_i32_297
  let v1465 : BitVec 1 := Scalar.andi v1462 v1464
  let v1451 : BitVec 32 := Scalar.divsi v1450 c96_i32_292
  let c1_i32_298 : BitVec 32 := 1#32
  let v1466 : BitVec 32 := Scalar.subi v1451 c1_i32_298
  let v1467 : BitVec 32 := Scalar.select v1465 v1466 v1451
  let c96_i32_299 : BitVec 32 := 96#32
  let c0_i32_300 : BitVec 32 := 0#32
  let v1468 : BitVec 1 := Scalar.cmpi .eq c96_i32_299 c0_i32_300
  let c1_i32_301 : BitVec 32 := 1#32
  let v1469 : BitVec 32 := Scalar.select v1468 c1_i32_301 c96_i32_299
  let v1470 : BitVec 32 := Scalar.remsi v1450 v1469
  let c0_i32_303 : BitVec 32 := 0#32
  let v1472 : BitVec 1 := Scalar.cmpi .slt v1470 c0_i32_303
  let c0_i32_304 : BitVec 32 := 0#32
  let v1473 : BitVec 1 := Scalar.cmpi .slt v1469 c0_i32_304
  let v1474 : BitVec 1 := Scalar.xori v1472 v1473
  let c0_i32_302 : BitVec 32 := 0#32
  let v1471 : BitVec 1 := Scalar.cmpi .ne v1470 c0_i32_302
  let v1475 : BitVec 1 := Scalar.andi v1474 v1471
  let v1476 : BitVec 32 := Scalar.addi v1470 v1469
  let v1477 : BitVec 32 := Scalar.select v1475 v1476 v1470
  let c0_i32_305 : BitVec 32 := 0#32
  let c0_i32_306 : BitVec 32 := 0#32
  ![v1467.toNat, v1477.toNat, 0, 0]
def k0_off36 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_162 : BitVec 32 := 0#32
  let c1_i32_164 : BitVec 32 := 1#32
  let arg16 : BitVec 32 := Scf.iv c0_i32_162 c1_i32_164 k0_t1
  let v1309 : BitVec 32 := Scalar.addi v2 arg16
  let c0_i32_248 : BitVec 32 := 0#32
  let v1381 : BitVec 1 := Scalar.cmpi .sgt v1309 c0_i32_248
  let v1382 : BitVec 32 := Scalar.extui v1381
  let c0_i32_249 : BitVec 32 := 0#32
  let v1383 : BitVec 1 := Scalar.cmpi .slt v1309 c0_i32_249
  let v1384 : BitVec 32 := Scalar.extui v1383
  let v1385 : BitVec 32 := Scalar.subi v1382 v1384
  let c96_i32_247 : BitVec 32 := 96#32
  let c0_i32_250 : BitVec 32 := 0#32
  let v1386 : BitVec 1 := Scalar.cmpi .sgt c96_i32_247 c0_i32_250
  let v1387 : BitVec 32 := Scalar.extui v1386
  let c0_i32_251 : BitVec 32 := 0#32
  let v1388 : BitVec 1 := Scalar.cmpi .slt c96_i32_247 c0_i32_251
  let v1389 : BitVec 32 := Scalar.extui v1388
  let v1390 : BitVec 32 := Scalar.subi v1387 v1389
  let v1391 : BitVec 1 := Scalar.cmpi .ne v1385 v1390
  let v1392 : BitVec 32 := Scalar.remsi v1309 c96_i32_247
  let c0_i32_252 : BitVec 32 := 0#32
  let v1393 : BitVec 1 := Scalar.cmpi .ne v1392 c0_i32_252
  let v1394 : BitVec 1 := Scalar.andi v1391 v1393
  let v1380 : BitVec 32 := Scalar.divsi v1309 c96_i32_247
  let c1_i32_253 : BitVec 32 := 1#32
  let v1395 : BitVec 32 := Scalar.subi v1380 c1_i32_253
  let v1396 : BitVec 32 := Scalar.select v1394 v1395 v1380
  let c96_i32_254 : BitVec 32 := 96#32
  let c0_i32_255 : BitVec 32 := 0#32
  let v1397 : BitVec 1 := Scalar.cmpi .eq c96_i32_254 c0_i32_255
  let c1_i32_256 : BitVec 32 := 1#32
  let v1398 : BitVec 32 := Scalar.select v1397 c1_i32_256 c96_i32_254
  let v1399 : BitVec 32 := Scalar.remsi v1309 v1398
  let c0_i32_258 : BitVec 32 := 0#32
  let v1401 : BitVec 1 := Scalar.cmpi .slt v1399 c0_i32_258
  let c0_i32_259 : BitVec 32 := 0#32
  let v1402 : BitVec 1 := Scalar.cmpi .slt v1398 c0_i32_259
  let v1403 : BitVec 1 := Scalar.xori v1401 v1402
  let c0_i32_257 : BitVec 32 := 0#32
  let v1400 : BitVec 1 := Scalar.cmpi .ne v1399 c0_i32_257
  let v1404 : BitVec 1 := Scalar.andi v1403 v1400
  let v1405 : BitVec 32 := Scalar.addi v1399 v1398
  let v1406 : BitVec 32 := Scalar.select v1404 v1405 v1399
  let c104_i32_260 : BitVec 32 := 104#32
  let c0_i32_261 : BitVec 32 := 0#32
  ![v1396.toNat, v1406.toNat, 104, 0]
def k0_cond3 (k0_t1 : Fin k0_t1_loop.trips) : BitVec 1 :=
  let c0_i32_162 : BitVec 32 := 0#32
  let c1_i32_164 : BitVec 32 := 1#32
  let arg16 : BitVec 32 := Scf.iv c0_i32_162 c1_i32_164 k0_t1
  let c0_i32_264 : BitVec 32 := 0#32
  let v1411 : BitVec 1 := Scalar.cmpi .sgt arg16 c0_i32_264
  let v1412 : BitVec 32 := Scalar.extui v1411
  let c0_i32_265 : BitVec 32 := 0#32
  let v1413 : BitVec 1 := Scalar.cmpi .ne v1412 c0_i32_265
  v1413

def k0_off37 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_162 : BitVec 32 := 0#32
  let c1_i32_164 : BitVec 32 := 1#32
  let arg16 : BitVec 32 := Scf.iv c0_i32_162 c1_i32_164 k0_t1
  let v1309 : BitVec 32 := Scalar.addi v2 arg16
  let c1_i32_291 : BitVec 32 := 1#32
  let v1450 : BitVec 32 := Scalar.subi v1309 c1_i32_291
  let c0_i32_293 : BitVec 32 := 0#32
  let v1452 : BitVec 1 := Scalar.cmpi .sgt v1450 c0_i32_293
  let v1453 : BitVec 32 := Scalar.extui v1452
  let c0_i32_294 : BitVec 32 := 0#32
  let v1454 : BitVec 1 := Scalar.cmpi .slt v1450 c0_i32_294
  let v1455 : BitVec 32 := Scalar.extui v1454
  let v1456 : BitVec 32 := Scalar.subi v1453 v1455
  let c96_i32_292 : BitVec 32 := 96#32
  let c0_i32_295 : BitVec 32 := 0#32
  let v1457 : BitVec 1 := Scalar.cmpi .sgt c96_i32_292 c0_i32_295
  let v1458 : BitVec 32 := Scalar.extui v1457
  let c0_i32_296 : BitVec 32 := 0#32
  let v1459 : BitVec 1 := Scalar.cmpi .slt c96_i32_292 c0_i32_296
  let v1460 : BitVec 32 := Scalar.extui v1459
  let v1461 : BitVec 32 := Scalar.subi v1458 v1460
  let v1462 : BitVec 1 := Scalar.cmpi .ne v1456 v1461
  let v1463 : BitVec 32 := Scalar.remsi v1450 c96_i32_292
  let c0_i32_297 : BitVec 32 := 0#32
  let v1464 : BitVec 1 := Scalar.cmpi .ne v1463 c0_i32_297
  let v1465 : BitVec 1 := Scalar.andi v1462 v1464
  let v1451 : BitVec 32 := Scalar.divsi v1450 c96_i32_292
  let c1_i32_298 : BitVec 32 := 1#32
  let v1466 : BitVec 32 := Scalar.subi v1451 c1_i32_298
  let v1467 : BitVec 32 := Scalar.select v1465 v1466 v1451
  let c96_i32_299 : BitVec 32 := 96#32
  let c0_i32_300 : BitVec 32 := 0#32
  let v1468 : BitVec 1 := Scalar.cmpi .eq c96_i32_299 c0_i32_300
  let c1_i32_301 : BitVec 32 := 1#32
  let v1469 : BitVec 32 := Scalar.select v1468 c1_i32_301 c96_i32_299
  let v1470 : BitVec 32 := Scalar.remsi v1450 v1469
  let c0_i32_303 : BitVec 32 := 0#32
  let v1472 : BitVec 1 := Scalar.cmpi .slt v1470 c0_i32_303
  let c0_i32_304 : BitVec 32 := 0#32
  let v1473 : BitVec 1 := Scalar.cmpi .slt v1469 c0_i32_304
  let v1474 : BitVec 1 := Scalar.xori v1472 v1473
  let c0_i32_302 : BitVec 32 := 0#32
  let v1471 : BitVec 1 := Scalar.cmpi .ne v1470 c0_i32_302
  let v1475 : BitVec 1 := Scalar.andi v1474 v1471
  let v1476 : BitVec 32 := Scalar.addi v1470 v1469
  let v1477 : BitVec 32 := Scalar.select v1475 v1476 v1470
  let c112_i32_305 : BitVec 32 := 112#32
  let c0_i32_306 : BitVec 32 := 0#32
  ![v1467.toNat, v1477.toNat, 112, 0]
@[reducible] def k0_t3_loop : Scf.Loop 32 :=
  let c0_i32_266 : BitVec 32 := 0#32
  let c112_i32_267 : BitVec 32 := 112#32
  let v1414 : BitVec 32 := Scalar.addi c0_i32_266 c112_i32_267
  let c1_i32_268 : BitVec 32 := 1#32
  ⟨c0_i32_266, v1414, c1_i32_268⟩
def k0_off38 (k0_t3 : Fin k0_t3_loop.trips) : Fin 1 → Nat :=
  let c112_i32_293 : BitVec 32 := 112#32
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1452 : BitVec 32 := Scalar.addi c112_i32_293 v1451
  let v1453 : Index := Scalar.indexCast v1452
  ![v1453.toNat]
def k0_off39 (v1454 : BitVec 32) : Fin 2 → Nat :=
  let v1455 : Index := Scalar.indexCast v1454
  let c0_294 : Index := 0#32
  ![v1455.toNat, 0]

def k0_off40 (k0_t3 : Fin k0_t3_loop.trips) : Fin 2 → Nat :=
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1457 : Index := Scalar.indexCast v1451
  let c0_295 : Index := 0#32
  ![v1457.toNat, 0]
def k0_off41 (v1454 : BitVec 32) : Fin 2 → Nat :=
  let v1459 : Index := Scalar.indexCast v1454
  let c16_296 : Index := 16#32
  ![v1459.toNat, 16]
def k0_off42 (k0_t3 : Fin k0_t3_loop.trips) : Fin 2 → Nat :=
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1461 : Index := Scalar.indexCast v1451
  let c16_297 : Index := 16#32
  ![v1461.toNat, 16]
def k0_off43 (v1454 : BitVec 32) : Fin 2 → Nat :=
  let v1463 : Index := Scalar.indexCast v1454
  let c32_298 : Index := 32#32
  ![v1463.toNat, 32]
def k0_off44 (k0_t3 : Fin k0_t3_loop.trips) : Fin 2 → Nat :=
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1465 : Index := Scalar.indexCast v1451
  let c32_299 : Index := 32#32
  ![v1465.toNat, 32]
def k0_off45 (v1454 : BitVec 32) : Fin 2 → Nat :=
  let v1467 : Index := Scalar.indexCast v1454
  let c48_300 : Index := 48#32
  ![v1467.toNat, 48]
def k0_off46 (k0_t3 : Fin k0_t3_loop.trips) : Fin 2 → Nat :=
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1469 : Index := Scalar.indexCast v1451
  let c48_301 : Index := 48#32
  ![v1469.toNat, 48]
def k0_off47 (v1454 : BitVec 32) : Fin 2 → Nat :=
  let v1471 : Index := Scalar.indexCast v1454
  let c64_302 : Index := 64#32
  ![v1471.toNat, 64]
def k0_off48 (k0_t3 : Fin k0_t3_loop.trips) : Fin 2 → Nat :=
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1473 : Index := Scalar.indexCast v1451
  let c64_303 : Index := 64#32
  ![v1473.toNat, 64]
def k0_off49 (v1454 : BitVec 32) : Fin 2 → Nat :=
  let v1475 : Index := Scalar.indexCast v1454
  let c80_304 : Index := 80#32
  ![v1475.toNat, 80]
def k0_off50 (k0_t3 : Fin k0_t3_loop.trips) : Fin 2 → Nat :=
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1477 : Index := Scalar.indexCast v1451
  let c80_305 : Index := 80#32
  ![v1477.toNat, 80]
def k0_off51 (v1454 : BitVec 32) : Fin 2 → Nat :=
  let v1479 : Index := Scalar.indexCast v1454
  let c96_306 : Index := 96#32
  ![v1479.toNat, 96]
def k0_off52 (k0_t3 : Fin k0_t3_loop.trips) : Fin 2 → Nat :=
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1481 : Index := Scalar.indexCast v1451
  let c96_307 : Index := 96#32
  ![v1481.toNat, 96]
def k0_off53 (v1454 : BitVec 32) : Fin 2 → Nat :=
  let v1483 : Index := Scalar.indexCast v1454
  let c112_308 : Index := 112#32
  ![v1483.toNat, 112]
def k0_off54 (k0_t3 : Fin k0_t3_loop.trips) : Fin 2 → Nat :=
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1485 : Index := Scalar.indexCast v1451
  let c112_309 : Index := 112#32
  ![v1485.toNat, 112]
def k0_off55 (v1454 : BitVec 32) : Fin 2 → Nat :=
  let v1487 : Index := Scalar.indexCast v1454
  let c128_310 : Index := 128#32
  ![v1487.toNat, 128]
def k0_off56 (k0_t3 : Fin k0_t3_loop.trips) : Fin 2 → Nat :=
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1489 : Index := Scalar.indexCast v1451
  let c128_311 : Index := 128#32
  ![v1489.toNat, 128]
def k0_off57 (v1454 : BitVec 32) : Fin 2 → Nat :=
  let v1491 : Index := Scalar.indexCast v1454
  let c144_312 : Index := 144#32
  ![v1491.toNat, 144]
def k0_off58 (k0_t3 : Fin k0_t3_loop.trips) : Fin 2 → Nat :=
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1493 : Index := Scalar.indexCast v1451
  let c144_313 : Index := 144#32
  ![v1493.toNat, 144]
def k0_off59 (v1454 : BitVec 32) : Fin 2 → Nat :=
  let v1495 : Index := Scalar.indexCast v1454
  let c160_314 : Index := 160#32
  ![v1495.toNat, 160]
def k0_off60 (k0_t3 : Fin k0_t3_loop.trips) : Fin 2 → Nat :=
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1497 : Index := Scalar.indexCast v1451
  let c160_315 : Index := 160#32
  ![v1497.toNat, 160]
def k0_off61 (v1454 : BitVec 32) : Fin 2 → Nat :=
  let v1499 : Index := Scalar.indexCast v1454
  let c176_316 : Index := 176#32
  ![v1499.toNat, 176]
def k0_off62 (k0_t3 : Fin k0_t3_loop.trips) : Fin 2 → Nat :=
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1501 : Index := Scalar.indexCast v1451
  let c176_317 : Index := 176#32
  ![v1501.toNat, 176]
def k0_off63 (v1454 : BitVec 32) : Fin 2 → Nat :=
  let v1503 : Index := Scalar.indexCast v1454
  let c192_318 : Index := 192#32
  ![v1503.toNat, 192]
def k0_off64 (k0_t3 : Fin k0_t3_loop.trips) : Fin 2 → Nat :=
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1505 : Index := Scalar.indexCast v1451
  let c192_319 : Index := 192#32
  ![v1505.toNat, 192]
def k0_off65 (v1454 : BitVec 32) : Fin 2 → Nat :=
  let v1507 : Index := Scalar.indexCast v1454
  let c208_320 : Index := 208#32
  ![v1507.toNat, 208]

def k0_chk2 (v1454 : BitVec 32) : Prop :=
  (∀ a, (k0_off39 v1454) a + S1x16.size a ≤ S120x224.size a) ∧
  (∀ a, (k0_off41 v1454) a + S1x16.size a ≤ S120x224.size a) ∧
  (∀ a, (k0_off43 v1454) a + S1x16.size a ≤ S120x224.size a) ∧
  (∀ a, (k0_off45 v1454) a + S1x16.size a ≤ S120x224.size a) ∧
  (∀ a, (k0_off47 v1454) a + S1x16.size a ≤ S120x224.size a) ∧
  (∀ a, (k0_off49 v1454) a + S1x16.size a ≤ S120x224.size a) ∧
  (∀ a, (k0_off51 v1454) a + S1x16.size a ≤ S120x224.size a) ∧
  (∀ a, (k0_off53 v1454) a + S1x16.size a ≤ S120x224.size a) ∧
  (∀ a, (k0_off55 v1454) a + S1x16.size a ≤ S120x224.size a) ∧
  (∀ a, (k0_off57 v1454) a + S1x16.size a ≤ S120x224.size a) ∧
  (∀ a, (k0_off59 v1454) a + S1x16.size a ≤ S120x224.size a) ∧
  (∀ a, (k0_off61 v1454) a + S1x16.size a ≤ S120x224.size a) ∧
  (∀ a, (k0_off63 v1454) a + S1x16.size a ≤ S120x224.size a) ∧
  (∀ a, (k0_off65 v1454) a + S1x16.size a ≤ S120x224.size a)
theorem k0_off39_inb : ∀ (v1454 : BitVec 32) (k0_hw2 : k0_chk2 v1454), ∀ a, (k0_off39 v1454) a + S1x16.size a ≤ S120x224.size a := fun v1454 k0_hw2 => k0_hw2.1
theorem k0_off41_inb : ∀ (v1454 : BitVec 32) (k0_hw2 : k0_chk2 v1454), ∀ a, (k0_off41 v1454) a + S1x16.size a ≤ S120x224.size a := fun v1454 k0_hw2 => k0_hw2.2.1
theorem k0_off43_inb : ∀ (v1454 : BitVec 32) (k0_hw2 : k0_chk2 v1454), ∀ a, (k0_off43 v1454) a + S1x16.size a ≤ S120x224.size a := fun v1454 k0_hw2 => k0_hw2.2.2.1
theorem k0_off45_inb : ∀ (v1454 : BitVec 32) (k0_hw2 : k0_chk2 v1454), ∀ a, (k0_off45 v1454) a + S1x16.size a ≤ S120x224.size a := fun v1454 k0_hw2 => k0_hw2.2.2.2.1
theorem k0_off47_inb : ∀ (v1454 : BitVec 32) (k0_hw2 : k0_chk2 v1454), ∀ a, (k0_off47 v1454) a + S1x16.size a ≤ S120x224.size a := fun v1454 k0_hw2 => k0_hw2.2.2.2.2.1
theorem k0_off49_inb : ∀ (v1454 : BitVec 32) (k0_hw2 : k0_chk2 v1454), ∀ a, (k0_off49 v1454) a + S1x16.size a ≤ S120x224.size a := fun v1454 k0_hw2 => k0_hw2.2.2.2.2.2.1
theorem k0_off51_inb : ∀ (v1454 : BitVec 32) (k0_hw2 : k0_chk2 v1454), ∀ a, (k0_off51 v1454) a + S1x16.size a ≤ S120x224.size a := fun v1454 k0_hw2 => k0_hw2.2.2.2.2.2.2.1
theorem k0_off53_inb : ∀ (v1454 : BitVec 32) (k0_hw2 : k0_chk2 v1454), ∀ a, (k0_off53 v1454) a + S1x16.size a ≤ S120x224.size a := fun v1454 k0_hw2 => k0_hw2.2.2.2.2.2.2.2.1
theorem k0_off55_inb : ∀ (v1454 : BitVec 32) (k0_hw2 : k0_chk2 v1454), ∀ a, (k0_off55 v1454) a + S1x16.size a ≤ S120x224.size a := fun v1454 k0_hw2 => k0_hw2.2.2.2.2.2.2.2.2.1
theorem k0_off57_inb : ∀ (v1454 : BitVec 32) (k0_hw2 : k0_chk2 v1454), ∀ a, (k0_off57 v1454) a + S1x16.size a ≤ S120x224.size a := fun v1454 k0_hw2 => k0_hw2.2.2.2.2.2.2.2.2.2.1
theorem k0_off59_inb : ∀ (v1454 : BitVec 32) (k0_hw2 : k0_chk2 v1454), ∀ a, (k0_off59 v1454) a + S1x16.size a ≤ S120x224.size a := fun v1454 k0_hw2 => k0_hw2.2.2.2.2.2.2.2.2.2.2.1
theorem k0_off61_inb : ∀ (v1454 : BitVec 32) (k0_hw2 : k0_chk2 v1454), ∀ a, (k0_off61 v1454) a + S1x16.size a ≤ S120x224.size a := fun v1454 k0_hw2 => k0_hw2.2.2.2.2.2.2.2.2.2.2.2.1
theorem k0_off63_inb : ∀ (v1454 : BitVec 32) (k0_hw2 : k0_chk2 v1454), ∀ a, (k0_off63 v1454) a + S1x16.size a ≤ S120x224.size a := fun v1454 k0_hw2 => k0_hw2.2.2.2.2.2.2.2.2.2.2.2.2.1
theorem k0_off65_inb : ∀ (v1454 : BitVec 32) (k0_hw2 : k0_chk2 v1454), ∀ a, (k0_off65 v1454) a + S1x16.size a ≤ S120x224.size a := fun v1454 k0_hw2 => k0_hw2.2.2.2.2.2.2.2.2.2.2.2.2.2

def k0_off66 (k0_t3 : Fin k0_t3_loop.trips) : Fin 2 → Nat :=
  let c0_i32_292 : BitVec 32 := 0#32
  let c0_i32_266 : BitVec 32 := 0#32
  let c1_i32_268 : BitVec 32 := 1#32
  let arg18 : BitVec 32 := Scf.iv c0_i32_266 c1_i32_268 k0_t3
  let c1_i32_291 : BitVec 32 := 1#32
  let v1450 : BitVec 32 := Scalar.muli arg18 c1_i32_291
  let v1451 : BitVec 32 := Scalar.addi c0_i32_292 v1450
  let v1509 : Index := Scalar.indexCast v1451
  let c208_321 : Index := 208#32
  ![v1509.toNat, 208]
def k0_off67 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_162 : BitVec 32 := 0#32
  let c1_i32_164 : BitVec 32 := 1#32
  let arg16 : BitVec 32 := Scf.iv c0_i32_162 c1_i32_164 k0_t1
  let v1309 : BitVec 32 := Scalar.addi v2 arg16
  let c0_i32_271 : BitVec 32 := 0#32
  let v1416 : BitVec 1 := Scalar.cmpi .sgt v1309 c0_i32_271
  let v1417 : BitVec 32 := Scalar.extui v1416
  let c0_i32_272 : BitVec 32 := 0#32
  let v1418 : BitVec 1 := Scalar.cmpi .slt v1309 c0_i32_272
  let v1419 : BitVec 32 := Scalar.extui v1418
  let v1420 : BitVec 32 := Scalar.subi v1417 v1419
  let c96_i32_270 : BitVec 32 := 96#32
  let c0_i32_273 : BitVec 32 := 0#32
  let v1421 : BitVec 1 := Scalar.cmpi .sgt c96_i32_270 c0_i32_273
  let v1422 : BitVec 32 := Scalar.extui v1421
  let c0_i32_274 : BitVec 32 := 0#32
  let v1423 : BitVec 1 := Scalar.cmpi .slt c96_i32_270 c0_i32_274
  let v1424 : BitVec 32 := Scalar.extui v1423
  let v1425 : BitVec 32 := Scalar.subi v1422 v1424
  let v1426 : BitVec 1 := Scalar.cmpi .ne v1420 v1425
  let v1427 : BitVec 32 := Scalar.remsi v1309 c96_i32_270
  let c0_i32_275 : BitVec 32 := 0#32
  let v1428 : BitVec 1 := Scalar.cmpi .ne v1427 c0_i32_275
  let v1429 : BitVec 1 := Scalar.andi v1426 v1428
  let v1415 : BitVec 32 := Scalar.divsi v1309 c96_i32_270
  let c1_i32_276 : BitVec 32 := 1#32
  let v1430 : BitVec 32 := Scalar.subi v1415 c1_i32_276
  let v1431 : BitVec 32 := Scalar.select v1429 v1430 v1415
  let c96_i32_277 : BitVec 32 := 96#32
  let c0_i32_278 : BitVec 32 := 0#32
  let v1432 : BitVec 1 := Scalar.cmpi .eq c96_i32_277 c0_i32_278
  let c1_i32_279 : BitVec 32 := 1#32
  let v1433 : BitVec 32 := Scalar.select v1432 c1_i32_279 c96_i32_277
  let v1434 : BitVec 32 := Scalar.remsi v1309 v1433
  let c0_i32_281 : BitVec 32 := 0#32
  let v1436 : BitVec 1 := Scalar.cmpi .slt v1434 c0_i32_281
  let c0_i32_282 : BitVec 32 := 0#32
  let v1437 : BitVec 1 := Scalar.cmpi .slt v1433 c0_i32_282
  let v1438 : BitVec 1 := Scalar.xori v1436 v1437
  let c0_i32_280 : BitVec 32 := 0#32
  let v1435 : BitVec 1 := Scalar.cmpi .ne v1434 c0_i32_280
  let v1439 : BitVec 1 := Scalar.andi v1438 v1435
  let v1440 : BitVec 32 := Scalar.addi v1434 v1433
  let v1441 : BitVec 32 := Scalar.select v1439 v1440 v1434
  let c112_i32_283 : BitVec 32 := 112#32
  let c0_i32_284 : BitVec 32 := 0#32
  ![v1431.toNat, v1441.toNat, 112, 0]
def k0_cond4 (k0_t1 : Fin k0_t1_loop.trips) : BitVec 1 :=
  let c0_i32_162 : BitVec 32 := 0#32
  let c1_i32_164 : BitVec 32 := 1#32
  let arg16 : BitVec 32 := Scf.iv c0_i32_162 c1_i32_164 k0_t1
  let c1_i32_287 : BitVec 32 := 1#32
  let v1446 : BitVec 32 := Scalar.addi arg16 c1_i32_287
  let c24_i32_288 : BitVec 32 := 24#32
  let v1447 : BitVec 1 := Scalar.cmpi .slt v1446 c24_i32_288
  let v1448 : BitVec 32 := Scalar.extui v1447
  let c0_i32_289 : BitVec 32 := 0#32
  let v1449 : BitVec 1 := Scalar.cmpi .ne v1448 c0_i32_289
  v1449

def k0_off68 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_162 : BitVec 32 := 0#32
  let c1_i32_164 : BitVec 32 := 1#32
  let arg16 : BitVec 32 := Scf.iv c0_i32_162 c1_i32_164 k0_t1
  let v1309 : BitVec 32 := Scalar.addi v2 arg16
  let c1_i32_291 : BitVec 32 := 1#32
  let v1450 : BitVec 32 := Scalar.addi v1309 c1_i32_291
  let c0_i32_293 : BitVec 32 := 0#32
  let v1452 : BitVec 1 := Scalar.cmpi .sgt v1450 c0_i32_293
  let v1453 : BitVec 32 := Scalar.extui v1452
  let c0_i32_294 : BitVec 32 := 0#32
  let v1454 : BitVec 1 := Scalar.cmpi .slt v1450 c0_i32_294
  let v1455 : BitVec 32 := Scalar.extui v1454
  let v1456 : BitVec 32 := Scalar.subi v1453 v1455
  let c96_i32_292 : BitVec 32 := 96#32
  let c0_i32_295 : BitVec 32 := 0#32
  let v1457 : BitVec 1 := Scalar.cmpi .sgt c96_i32_292 c0_i32_295
  let v1458 : BitVec 32 := Scalar.extui v1457
  let c0_i32_296 : BitVec 32 := 0#32
  let v1459 : BitVec 1 := Scalar.cmpi .slt c96_i32_292 c0_i32_296
  let v1460 : BitVec 32 := Scalar.extui v1459
  let v1461 : BitVec 32 := Scalar.subi v1458 v1460
  let v1462 : BitVec 1 := Scalar.cmpi .ne v1456 v1461
  let v1463 : BitVec 32 := Scalar.remsi v1450 c96_i32_292
  let c0_i32_297 : BitVec 32 := 0#32
  let v1464 : BitVec 1 := Scalar.cmpi .ne v1463 c0_i32_297
  let v1465 : BitVec 1 := Scalar.andi v1462 v1464
  let v1451 : BitVec 32 := Scalar.divsi v1450 c96_i32_292
  let c1_i32_298 : BitVec 32 := 1#32
  let v1466 : BitVec 32 := Scalar.subi v1451 c1_i32_298
  let v1467 : BitVec 32 := Scalar.select v1465 v1466 v1451
  let c96_i32_299 : BitVec 32 := 96#32
  let c0_i32_300 : BitVec 32 := 0#32
  let v1468 : BitVec 1 := Scalar.cmpi .eq c96_i32_299 c0_i32_300
  let c1_i32_301 : BitVec 32 := 1#32
  let v1469 : BitVec 32 := Scalar.select v1468 c1_i32_301 c96_i32_299
  let v1470 : BitVec 32 := Scalar.remsi v1450 v1469
  let c0_i32_303 : BitVec 32 := 0#32
  let v1472 : BitVec 1 := Scalar.cmpi .slt v1470 c0_i32_303
  let c0_i32_304 : BitVec 32 := 0#32
  let v1473 : BitVec 1 := Scalar.cmpi .slt v1469 c0_i32_304
  let v1474 : BitVec 1 := Scalar.xori v1472 v1473
  let c0_i32_302 : BitVec 32 := 0#32
  let v1471 : BitVec 1 := Scalar.cmpi .ne v1470 c0_i32_302
  let v1475 : BitVec 1 := Scalar.andi v1474 v1471
  let v1476 : BitVec 32 := Scalar.addi v1470 v1469
  let v1477 : BitVec 32 := Scalar.select v1475 v1476 v1470
  let c104_i32_305 : BitVec 32 := 104#32
  let c0_i32_306 : BitVec 32 := 0#32
  ![v1467.toNat, v1477.toNat, 104, 0]
def k0_off69 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c24_i32_166 : BitVec 32 := 24#32
  let v1243 : BitVec 32 := Scalar.addi v2 c24_i32_166
  let c1_i32_167 : BitVec 32 := 1#32
  let v1244 : BitVec 32 := Scalar.subi v1243 c1_i32_167
  let c0_i32_169 : BitVec 32 := 0#32
  let v1246 : BitVec 1 := Scalar.cmpi .sgt v1244 c0_i32_169
  let v1247 : BitVec 32 := Scalar.extui v1246
  let c0_i32_170 : BitVec 32 := 0#32
  let v1248 : BitVec 1 := Scalar.cmpi .slt v1244 c0_i32_170
  let v1249 : BitVec 32 := Scalar.extui v1248
  let v1250 : BitVec 32 := Scalar.subi v1247 v1249
  let c96_i32_168 : BitVec 32 := 96#32
  let c0_i32_171 : BitVec 32 := 0#32
  let v1251 : BitVec 1 := Scalar.cmpi .sgt c96_i32_168 c0_i32_171
  let v1252 : BitVec 32 := Scalar.extui v1251
  let c0_i32_172 : BitVec 32 := 0#32
  let v1253 : BitVec 1 := Scalar.cmpi .slt c96_i32_168 c0_i32_172
  let v1254 : BitVec 32 := Scalar.extui v1253
  let v1255 : BitVec 32 := Scalar.subi v1252 v1254
  let v1256 : BitVec 1 := Scalar.cmpi .ne v1250 v1255
  let v1257 : BitVec 32 := Scalar.remsi v1244 c96_i32_168
  let c0_i32_173 : BitVec 32 := 0#32
  let v1258 : BitVec 1 := Scalar.cmpi .ne v1257 c0_i32_173
  let v1259 : BitVec 1 := Scalar.andi v1256 v1258
  let v1245 : BitVec 32 := Scalar.divsi v1244 c96_i32_168
  let c1_i32_174 : BitVec 32 := 1#32
  let v1260 : BitVec 32 := Scalar.subi v1245 c1_i32_174
  let v1261 : BitVec 32 := Scalar.select v1259 v1260 v1245
  let c96_i32_175 : BitVec 32 := 96#32
  let c0_i32_176 : BitVec 32 := 0#32
  let v1262 : BitVec 1 := Scalar.cmpi .eq c96_i32_175 c0_i32_176
  let c1_i32_177 : BitVec 32 := 1#32
  let v1263 : BitVec 32 := Scalar.select v1262 c1_i32_177 c96_i32_175
  let v1264 : BitVec 32 := Scalar.remsi v1244 v1263
  let c0_i32_179 : BitVec 32 := 0#32
  let v1266 : BitVec 1 := Scalar.cmpi .slt v1264 c0_i32_179
  let c0_i32_180 : BitVec 32 := 0#32
  let v1267 : BitVec 1 := Scalar.cmpi .slt v1263 c0_i32_180
  let v1268 : BitVec 1 := Scalar.xori v1266 v1267
  let c0_i32_178 : BitVec 32 := 0#32
  let v1265 : BitVec 1 := Scalar.cmpi .ne v1264 c0_i32_178
  let v1269 : BitVec 1 := Scalar.andi v1268 v1265
  let v1270 : BitVec 32 := Scalar.addi v1264 v1263
  let v1271 : BitVec 32 := Scalar.select v1269 v1270 v1264
  let c0_i32_181 : BitVec 32 := 0#32
  let c0_i32_182 : BitVec 32 := 0#32
  ![v1261.toNat, v1271.toNat, 0, 0]
def k0_off70 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c24_i32_185 : BitVec 32 := 24#32
  let v1276 : BitVec 32 := Scalar.addi v2 c24_i32_185
  let c1_i32_186 : BitVec 32 := 1#32
  let v1277 : BitVec 32 := Scalar.subi v1276 c1_i32_186
  let c0_i32_188 : BitVec 32 := 0#32
  let v1279 : BitVec 1 := Scalar.cmpi .sgt v1277 c0_i32_188
  let v1280 : BitVec 32 := Scalar.extui v1279
  let c0_i32_189 : BitVec 32 := 0#32
  let v1281 : BitVec 1 := Scalar.cmpi .slt v1277 c0_i32_189
  let v1282 : BitVec 32 := Scalar.extui v1281
  let v1283 : BitVec 32 := Scalar.subi v1280 v1282
  let c96_i32_187 : BitVec 32 := 96#32
  let c0_i32_190 : BitVec 32 := 0#32
  let v1284 : BitVec 1 := Scalar.cmpi .sgt c96_i32_187 c0_i32_190
  let v1285 : BitVec 32 := Scalar.extui v1284
  let c0_i32_191 : BitVec 32 := 0#32
  let v1286 : BitVec 1 := Scalar.cmpi .slt c96_i32_187 c0_i32_191
  let v1287 : BitVec 32 := Scalar.extui v1286
  let v1288 : BitVec 32 := Scalar.subi v1285 v1287
  let v1289 : BitVec 1 := Scalar.cmpi .ne v1283 v1288
  let v1290 : BitVec 32 := Scalar.remsi v1277 c96_i32_187
  let c0_i32_192 : BitVec 32 := 0#32
  let v1291 : BitVec 1 := Scalar.cmpi .ne v1290 c0_i32_192
  let v1292 : BitVec 1 := Scalar.andi v1289 v1291
  let v1278 : BitVec 32 := Scalar.divsi v1277 c96_i32_187
  let c1_i32_193 : BitVec 32 := 1#32
  let v1293 : BitVec 32 := Scalar.subi v1278 c1_i32_193
  let v1294 : BitVec 32 := Scalar.select v1292 v1293 v1278
  let c96_i32_194 : BitVec 32 := 96#32
  let c0_i32_195 : BitVec 32 := 0#32
  let v1295 : BitVec 1 := Scalar.cmpi .eq c96_i32_194 c0_i32_195
  let c1_i32_196 : BitVec 32 := 1#32
  let v1296 : BitVec 32 := Scalar.select v1295 c1_i32_196 c96_i32_194
  let v1297 : BitVec 32 := Scalar.remsi v1277 v1296
  let c0_i32_198 : BitVec 32 := 0#32
  let v1299 : BitVec 1 := Scalar.cmpi .slt v1297 c0_i32_198
  let c0_i32_199 : BitVec 32 := 0#32
  let v1300 : BitVec 1 := Scalar.cmpi .slt v1296 c0_i32_199
  let v1301 : BitVec 1 := Scalar.xori v1299 v1300
  let c0_i32_197 : BitVec 32 := 0#32
  let v1298 : BitVec 1 := Scalar.cmpi .ne v1297 c0_i32_197
  let v1302 : BitVec 1 := Scalar.andi v1301 v1298
  let v1303 : BitVec 32 := Scalar.addi v1297 v1296
  let v1304 : BitVec 32 := Scalar.select v1302 v1303 v1297
  let c112_i32_200 : BitVec 32 := 112#32
  let c0_i32_201 : BitVec 32 := 0#32
  ![v1294.toNat, v1304.toNat, 112, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x96x224x224 : Shape := ⟨4, ![8, 96, 224, 224]⟩
abbrev S224 : Shape := ⟨1, ![224]⟩
abbrev S_ : Shape := ⟨0, ![]⟩
abbrev S224x1 : Shape := ⟨2, ![224, 1]⟩
abbrev S1 : Shape := ⟨1, ![1]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S8x96x224x224, .f32⟩
  | .hbm, ⟨1, _⟩ => ⟨S224, .f32⟩
  | .hbm, ⟨2, _⟩ => ⟨S224, .f32⟩
  | .hbm, ⟨3, _⟩ => ⟨S224, .i32⟩
  | .hbm, ⟨4, _⟩ => ⟨S_, .f32⟩
  | .hbm, ⟨5, _⟩ => ⟨S224, .f32⟩
  | .hbm, ⟨6, _⟩ => ⟨S224, .f32⟩
  | .hbm, ⟨7, _⟩ => ⟨S_, .f32⟩
  | .hbm, ⟨8, _⟩ => ⟨S224, .f32⟩
  | .hbm, ⟨9, _⟩ => ⟨S224, .i1⟩
  | .hbm, ⟨10, _⟩ => ⟨S224, .f32⟩
  | .hbm, ⟨11, _⟩ => ⟨S224, .f32⟩
  | .hbm, ⟨12, _⟩ => ⟨S224, .f32⟩
  | .hbm, ⟨13, _⟩ => ⟨S224, .i32⟩
  | .hbm, ⟨14, _⟩ => ⟨S224, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S224, .i32⟩
  | .hbm, ⟨19, _⟩ => ⟨S224, .i32⟩
  | .hbm, ⟨20, _⟩ => ⟨S_, .i32⟩
  | .hbm, ⟨21, _⟩ => ⟨S224, .i32⟩
  | .hbm, ⟨22, _⟩ => ⟨S224, .i32⟩
  | .hbm, ⟨23, _⟩ => ⟨S224, .i32⟩
  | .hbm, ⟨24, _⟩ => ⟨S_, .f32⟩
  | .hbm, ⟨25, _⟩ => ⟨S224, .f32⟩
  | .hbm, ⟨26, _⟩ => ⟨S224, .f32⟩
  | .hbm, ⟨27, _⟩ => ⟨S_, .f32⟩
  | .hbm, ⟨28, _⟩ => ⟨S224, .f32⟩
  | .hbm, ⟨29, _⟩ => ⟨S224, .i1⟩
  | .hbm, ⟨30, _⟩ => ⟨S224, .f32⟩
  | .hbm, ⟨31, _⟩ => ⟨S224, .f32⟩
  | .hbm, ⟨32, _⟩ => ⟨S224, .f32⟩
  | .hbm, ⟨33, _⟩ => ⟨S224, .i32⟩
  | .hbm, ⟨34, _⟩ => ⟨S224, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S224, .i32⟩
  | .hbm, ⟨39, _⟩ => ⟨S224, .i32⟩
  | .hbm, ⟨40, _⟩ => ⟨S_, .i32⟩
  | .hbm, ⟨41, _⟩ => ⟨S224, .i32⟩
  | .hbm, ⟨42, _⟩ => ⟨S224, .i32⟩
  | .hbm, ⟨43, _⟩ => ⟨S_, .i32⟩
  | .hbm, ⟨44, _⟩ => ⟨S224, .i32⟩
  | .hbm, ⟨45, _⟩ => ⟨S224, .i1⟩
  | .hbm, ⟨46, _⟩ => ⟨S_, .i32⟩
  | .hbm, ⟨47, _⟩ => ⟨S224, .i32⟩
  | .hbm, ⟨48, _⟩ => ⟨S224, .i32⟩
  | .hbm, ⟨49, _⟩ => ⟨S224, .i32⟩
  | .hbm, ⟨50, _⟩ => ⟨S224x1, .i32⟩
  | .hbm, ⟨51, _⟩ => ⟨S1, .i32⟩
  | .hbm, ⟨52, _⟩ => ⟨S_, .i32⟩
  | .hbm, ⟨53, _⟩ => ⟨S224x1, .i32⟩
  | .hbm, ⟨54, _⟩ => ⟨S224x1, .i1⟩
  | .hbm, ⟨55, _⟩ => ⟨S1x1, .i32⟩
  | .hbm, ⟨56, _⟩ => ⟨S224x1, .i32⟩
  | .hbm, ⟨57, _⟩ => ⟨S224x1, .i1⟩
  | .hbm, ⟨58, _⟩ => ⟨S224x1, .i1⟩
  | .hbm, ⟨59, _⟩ => ⟨S_, .i1⟩
  | .hbm, ⟨60, _⟩ => ⟨S224, .i1⟩
  | .hbm, ⟨61, _⟩ => ⟨S8x96x224x224, .f32⟩
  | .hbm, ⟨62, _⟩ => ⟨S8x96x224x224, .i1⟩
  | .hbm, ⟨63, _⟩ => ⟨S_, .f32⟩
  | .hbm, ⟨64, _⟩ => ⟨S8x96x224x224, .f32⟩
  | .hbm, ⟨65, _⟩ => ⟨S8x96x224x224, .f32⟩
  | .hbm, ⟨66, _⟩ => ⟨S_, .i32⟩
  | .hbm, ⟨67, _⟩ => ⟨S224, .i32⟩
  | .hbm, ⟨68, _⟩ => ⟨S224, .i1⟩
  | .hbm, ⟨69, _⟩ => ⟨S_, .i32⟩
  | .hbm, ⟨70, _⟩ => ⟨S224, .i32⟩
  | .hbm, ⟨71, _⟩ => ⟨S224, .i32⟩
  | .hbm, ⟨72, _⟩ => ⟨S224, .i32⟩
  | .hbm, ⟨73, _⟩ => ⟨S224x1, .i32⟩
  | .hbm, ⟨74, _⟩ => ⟨S1, .i32⟩
  | .hbm, ⟨75, _⟩ => ⟨S_, .i32⟩
  | .hbm, ⟨76, _⟩ => ⟨S224x1, .i32⟩
  | .hbm, ⟨77, _⟩ => ⟨S224x1, .i1⟩
  | .hbm, ⟨78, _⟩ => ⟨S1x1, .i32⟩
  | .hbm, ⟨79, _⟩ => ⟨S224x1, .i32⟩
  | .hbm, ⟨80, _⟩ => ⟨S224x1, .i1⟩
  | .hbm, ⟨81, _⟩ => ⟨S224x1, .i1⟩
  | .hbm, ⟨82, _⟩ => ⟨S_, .i1⟩
  | .hbm, ⟨83, _⟩ => ⟨S224, .i1⟩
  | .hbm, ⟨84, _⟩ => ⟨S8x96x224x224, .f32⟩
  | .hbm, ⟨85, _⟩ => ⟨S8x96x224x224, .i1⟩
  | .hbm, ⟨86, _⟩ => ⟨S_, .f32⟩
  | .hbm, ⟨87, _⟩ => ⟨S8x96x224x224, .f32⟩
  | .hbm, ⟨88, _⟩ => ⟨S8x96x224x224, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_call2_cst : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_c_3 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v13 : Ref sig .tc := ⟨.hbm, 42, rfl⟩
abbrev main_call4_c : Ref sig .tc := ⟨.hbm, 43, rfl⟩
abbrev main_call4_v0 : Ref sig .tc := ⟨.hbm, 44, rfl⟩
abbrev main_call4_v1 : Ref sig .tc := ⟨.hbm, 45, rfl⟩
abbrev main_call4_c_0 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_call4_v5 : Ref sig .tc := ⟨.hbm, 50, rfl⟩
abbrev main_call4_c_1 : Ref sig .tc := ⟨.hbm, 51, rfl⟩
abbrev main_call4_c_2 : Ref sig .tc := ⟨.hbm, 52, rfl⟩
abbrev main_call4_v6 : Ref sig .tc := ⟨.hbm, 53, rfl⟩
abbrev main_call4_v7 : Ref sig .tc := ⟨.hbm, 54, rfl⟩
abbrev main_call4_v8 : Ref sig .tc := ⟨.hbm, 55, rfl⟩
abbrev main_call4_v9 : Ref sig .tc := ⟨.hbm, 56, rfl⟩
abbrev main_call4_v10 : Ref sig .tc := ⟨.hbm, 57, rfl⟩
abbrev main_call4_v11 : Ref sig .tc := ⟨.hbm, 58, rfl⟩
abbrev main_call4_c_3 : Ref sig .tc := ⟨.hbm, 59, rfl⟩
abbrev main_call4_v12 : Ref sig .tc := ⟨.hbm, 60, rfl⟩
abbrev main_call4_v13 : Ref sig .tc := ⟨.hbm, 61, rfl⟩
abbrev main_call4_v14 : Ref sig .tc := ⟨.hbm, 62, rfl⟩
abbrev main_call4_cst : Ref sig .tc := ⟨.hbm, 63, rfl⟩
abbrev main_call4_v15 : Ref sig .tc := ⟨.hbm, 64, rfl⟩
abbrev main_v14 : Ref sig .tc := ⟨.hbm, 65, rfl⟩
abbrev main_call5_c : Ref sig .tc := ⟨.hbm, 66, rfl⟩
abbrev main_call5_v0 : Ref sig .tc := ⟨.hbm, 67, rfl⟩
abbrev main_call5_v1 : Ref sig .tc := ⟨.hbm, 68, rfl⟩
abbrev main_call5_c_0 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_call5_v5 : Ref sig .tc := ⟨.hbm, 73, rfl⟩
abbrev main_call5_c_1 : Ref sig .tc := ⟨.hbm, 74, rfl⟩
abbrev main_call5_c_2 : Ref sig .tc := ⟨.hbm, 75, rfl⟩
abbrev main_call5_v6 : Ref sig .tc := ⟨.hbm, 76, rfl⟩
abbrev main_call5_v7 : Ref sig .tc := ⟨.hbm, 77, rfl⟩
abbrev main_call5_v8 : Ref sig .tc := ⟨.hbm, 78, rfl⟩
abbrev main_call5_v9 : Ref sig .tc := ⟨.hbm, 79, rfl⟩
abbrev main_call5_v10 : Ref sig .tc := ⟨.hbm, 80, rfl⟩
abbrev main_call5_v11 : Ref sig .tc := ⟨.hbm, 81, rfl⟩
abbrev main_call5_c_3 : Ref sig .tc := ⟨.hbm, 82, rfl⟩
abbrev main_call5_v12 : Ref sig .tc := ⟨.hbm, 83, rfl⟩
abbrev main_call5_v13 : Ref sig .tc := ⟨.hbm, 84, rfl⟩
abbrev main_call5_v14 : Ref sig .tc := ⟨.hbm, 85, rfl⟩
abbrev main_call5_cst : Ref sig .tc := ⟨.hbm, 86, rfl⟩
abbrev main_call5_v15 : Ref sig .tc := ⟨.hbm, 87, rfl⟩
abbrev main_v15 : Ref sig .tc := ⟨.hbm, 88, rfl⟩

abbrev nD : Nat := 1
abbrev τ : Topo := Topo.v7x

variable {F : FTy → Type} [FloatOps F]
-- ==== Proof.Values.lean ====
/-
  What the kernel computes, as plain functions of the arrays it is given, at either reading of the floats.

  Row `r` of a result image is a row of the same input image. The kernel looks the row's shift up in `ypos`, adds the row
  number, and clamps; it then counts the row from the start of the window of rows it has fetched (`start`) and clamps once
  more so that the row lies inside the window. `tab` is that table of 224 row numbers and `out` the result array.
-/
module

public import proofs.«01_k».proof.Defs
public import Idealize.ShloMosaic.Lib.ValueIdxCore
public import Idealize.ShloMosaic.Lib.ValueIdxCoords
public import Idealize.ShloMosaic.Lib.ValueLayout

@[expose] public section

noncomputable section

namespace Cert.Proof.Shift

open Cert.KernelIdeal
open Idealize.ShloMosaic Idealize.ShloMosaic.ValueIdx

variable {F : FTy → Type} [FloatOps F]

/-- The first row of the window that holds row `r`'s source: rows 0–119 serve the upper half, rows 104–223 the lower. -/
def start (r : ℕ) : ℕ := if r < 112 then 0 else 104

theorem start_le (r : ℕ) : start r ≤ 104 := by unfold start; split <;> omega

/-- The clamped row that row number `w` reads under the shift `y`. -/
def srcWord (w : BitVec 32) (y : F .f32) : BitVec 32 :=
  IntOp.minsi 223#32 (IntOp.maxsi 0#32 (IntOp.addi w (FloatOps.fptosi 32 (FloatOps.mulf y (Scalar.ofBits .f32 0x3F800000#32)))))

/-- The same row counted from `s` and kept inside the window of 120 rows. -/
def rowWord (w s : BitVec 32) (y : F .f32) : BitVec 32 :=
  IntOp.minsi 119#32 (IntOp.maxsi 0#32 (IntOp.subi (srcWord w y) s))

/-- A word clamped to [0, 119] is at most 119. -/
theorem clamp_le (x : BitVec 32) : (IntOp.minsi 119#32 (IntOp.maxsi 0#32 x)).toNat ≤ 119 := by
  unfold IntOp.minsi IntOp.maxsi
  simp only [BitVec.slt, BitVec.toInt_eq_toNat_cond, decide_eq_true_eq]
  have := x.isLt
  split_ifs <;> simp_all <;> omega

theorem rowWord_le (w s : BitVec 32) (y : F .f32) : (rowWord w s y).toNat ≤ 119 := clamp_le _

/-- The table of rows, one word per row of a result image. -/
def tab (Y : S224.Idx → F .f32) (p : S224.Idx) : BitVec 32 :=
  rowWord (BitVec.ofNat 32 (p 0).val) (BitVec.ofNat 32 (start (p 0).val)) (Y p)

theorem tab_le (Y : S224.Idx → F .f32) (p : S224.Idx) : (tab Y p).toNat ≤ 119 := rowWord_le _ _ _

/-- The row of the input image that row `r` of the result takes. -/
def srcRow (Y : S224.Idx → F .f32) (r : Fin 224) : Fin 224 :=
  ⟨start r.val + (tab Y (ix1 r)).toNat, by have := start_le r.val; have := tab_le Y (ix1 r); omega⟩

/-- The result array. -/
def out (X : S8x96x224x224.Idx → F .f32) (Y : S224.Idx → F .f32) (p : S8x96x224x224.Idx) : F .f32 :=
  X (ix4 (p 0) (p 1) (srcRow Y (p 2)) (p 3))

end Cert.Proof.Shift

end
-- ==== Proof.Common.lean ====
/-
  The launch as the library's SparseCore theorem sees it, and what the one call carries: thirty-two tasks, task `(c, s)` with
  24 of the 768 images. A task is handed a share of the input and of `ypos` to read and the result's pieces of its own images,
  an upper and a lower half for each, and gives the same back with the pieces at `out`.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Transfers
public import proofs.«01_k».proof.Proof.Gen.KernelIdeal
public import proofs.«01_k».proof.Proof.Gen.KernelIdeal.Skeleton
public import proofs.«01_k».proof.Proof.Values

@[expose] public section

noncomputable section

namespace Cert.Proof.Shift

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.Transfers

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the pieces of the result -/

variable (m : (ℓ : Loc nD τ sig) → Buf (Elt F) ℓ)

/-- The input, `xpos`, `ypos` and the result, as locations of device `d`. -/
abbrev xLoc (d : Dev nD) : Loc nD τ sig := (SparseCore.T d).loc main_arg0
abbrev aLoc (d : Dev nD) : Loc nD τ sig := (SparseCore.T d).loc main_arg1
abbrev yLoc (d : Dev nD) : Loc nD τ sig := (SparseCore.T d).loc main_arg2
abbrev oLoc (d : Dev nD) : Loc nD τ sig := (SparseCore.T d).loc main_v0

/-- Where half `h` of image `n` begins in the result: image `n` is channel `n % 96` of batch entry `n / 96`. -/
abbrev outOff (n h : ℕ) : Fin 4 → ℕ := ![n / 96, n % 96, 112 * h, 0]
/-- Where the window for half `h` of image `n` begins in the input. -/
abbrev inOff (n h : ℕ) : Fin 4 → ℕ := ![n / 96, n % 96, 104 * h, 0]

theorem outOff_inb {n h : ℕ} (hn : n < 768) (hh : h < 2) : ∀ a, outOff n h a + S1x1x112x224.size a ≤ S8x96x224x224.size a := by
  intro a
  match a with
  | 0 => show n / 96 + 1 ≤ 8; omega
  | 1 => show n % 96 + 1 ≤ 96; omega
  | 2 => show 112 * h + 112 ≤ 224; omega
  | 3 => show 0 + 224 ≤ 224; omega

/-- The elements of half `h` of image `n`. -/
def piece (n h : ℕ) : Finset S8x96x224x224.Idx :=
  Finset.univ.filter fun p => (p 0).val * 96 + (p 1).val = n ∧ (p 2).val / 112 = h

/-- The number of the `k`-th image of task `(c, s)`. -/
abbrev imgNo (c s k : ℕ) : ℕ := (s * 2 + c) * 24 + k

theorem set_outOff {n h : ℕ} (hn : n < 768) (hh : h < 2) (inb) :
    (Rect.unit (s := S8x96x224x224) (outOff n h) S1x1x112x224.size inb).set = piece n h := by
  ext p
  rw [Rect.mem_set_unit, piece, Finset.mem_filter]
  have h0 : (p 0).val < 8 := (p 0).isLt
  have h1 : (p 1).val < 96 := (p 1).isLt
  have h2 : (p 2).val < 224 := (p 2).isLt
  have h3 : (p 3).val < 224 := (p 3).isLt
  constructor
  · intro h
    have a0 : n / 96 ≤ (p 0).val ∧ (p 0).val < n / 96 + 1 := h 0
    have a1 : n % 96 ≤ (p 1).val ∧ (p 1).val < n % 96 + 1 := h 1
    have a2 : 112 * _ ≤ (p 2).val ∧ (p 2).val < 112 * _ + 112 := h 2
    refine ⟨Finset.mem_univ _, ?_, ?_⟩ <;> omega
  · rintro ⟨-, e, e'⟩ a
    match a with
    | 0 => show n / 96 ≤ (p 0).val ∧ (p 0).val < n / 96 + 1; omega
    | 1 => show n % 96 ≤ (p 1).val ∧ (p 1).val < n % 96 + 1; omega
    | 2 => show 112 * h ≤ (p 2).val ∧ (p 2).val < 112 * h + 112; omega
    | 3 => show 0 ≤ (p 3).val ∧ (p 3).val < 0 + 224; omega

variable [FloatOps F]

/-- The result the whole launch leaves on device `d`. -/
abbrev outBuf (d : Dev nD) : Buf (Elt F) (oLoc d) := out (m (xLoc d)) (m (yLoc d))

/-! ## What the handshakes carry -/

/-- The reading share of core `c`'s task `s`: one sixteenth of a half. -/
abbrev shr (c : Fin 2) (s : Fin 16) : PosShare TreeShare := shareTok (shareTok fullShare 2 c) 16 s

/-- The pieces of task `(c, s)`, all at the contents `f`. -/
abbrev tilePieces (d : Dev nD) (c : Fin 2) (s : Fin 16) (f : Buf (Elt F) (oLoc d)) : sProp 𝕄 :=
  bigSep Finset.univ fun h : Fin 2 => bigSep Finset.univ fun k : Fin 24 => oLoc d ↦[piece (imgNo c s k) h]{fullShare} f

/-- What task `(c, s)` holds of the four arrays, the result's pieces at `f`. -/
abbrev tilePts (d : Dev nD) (c : Fin 2) (s : Fin 16) (f : Buf (Elt F) (oLoc d)) : sProp 𝕄 :=
  iprop((xLoc d ↦{shr c s} m (xLoc d)) ∗ (yLoc d ↦{shr c s} m (yLoc d)) ∗ tilePieces d c s f)

/-- A core's share of the call: its sixteen tasks'. -/
abbrev corePts (d : Dev nD) (c : Fin 2) (f : Buf (Elt F) (oLoc d)) : sProp 𝕄 :=
  bigSep Finset.univ fun s : Fin 16 => tilePts m d c s f

/-- The one call: each core takes its tasks' holdings and brings them back with the pieces computed. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (outBuf m d)
  go := fun q d c i => match q with | 0 => tilePts m d (Fin.cast nCore_zero c) (Fin.cast nSub_zero i) (m (oLoc d))
  td := fun q d c i => match q with | 0 => tilePts m d (Fin.cast nCore_zero c) (Fin.cast nSub_zero i) (outBuf m d)
  x := fun _ _ => iprop(emp)

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (outBuf m d)))
  go q d c i := match q with
    | 0 => (inferInstance : BI.Storable (upEmb : UEmb _ 𝕄) (tilePts m d (Fin.cast nCore_zero c) (Fin.cast nSub_zero i) (m (oLoc d))))
  td q d c i := match q with
    | 0 => (inferInstance : BI.Storable (upEmb : UEmb _ 𝕄) (tilePts m d (Fin.cast nCore_zero c) (Fin.cast nSub_zero i) (outBuf m d)))

/-! ## A task's place -/

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev sL (L : grid0.Coords) : Fin 16 := Fin.cast bound_one (L 1)

/-- The number of the `k`-th image of the task at `L`. -/
abbrev img (L : grid0.Coords) (k : ℕ) : ℕ := imgNo (L 0).val (L 1).val k

theorem img_lt (L : grid0.Coords) {k : ℕ} (hk : k < 24) : img L k < 768 := by
  have h0 : (L 0).val < 2 := (L 0).isLt
  have h1 : (L 1).val < 16 := (L 1).isLt
  show ((L 1).val * 2 + (L 0).val) * 24 + k < 768
  omega

end Cert.Proof.Shift

end
-- ==== Proof.Offsets.lean ====
/-
  Where the copies go. The kernel computes the place of every copy from the task's coordinates and the trip in machine words,
  with a division and a remainder by 96; here each of these is the plain one (`inOff`, `outOff`), decided over the thirty-two
  tasks and the twenty-four trips.
-/
module

public import proofs.«01_k».proof.Proof.Common

@[expose] public section

noncomputable section

namespace Cert.Proof.Shift

open Cert.KernelIdeal Cert.KernelIdeal.Gen

open Idealize.ShloMosaic

theorem off1_eq (L : grid0.Coords) : k0_off1 L = inOff (img L 0) 0 := by revert L; decide +kernel
theorem off2_eq (L : grid0.Coords) : k0_off2 L = inOff (img L 0) 1 := by revert L; decide +kernel
theorem off69_eq (L : grid0.Coords) : k0_off69 L = outOff (img L 23) 0 := by revert L; decide +kernel
theorem off70_eq (L : grid0.Coords) : k0_off70 L = outOff (img L 23) 1 := by revert L; decide +kernel

theorem off3_eq (L : grid0.Coords) (k : Fin k0_t1_loop.trips) : k0_off3 L k = inOff (img L k.val) 0 := by
  revert L k; decide +kernel
theorem off34_eq (L : grid0.Coords) (k : Fin k0_t1_loop.trips) : k0_off34 L k = outOff (img L k.val) 0 := by
  revert L k; decide +kernel
theorem off36_eq (L : grid0.Coords) (k : Fin k0_t1_loop.trips) : k0_off36 L k = inOff (img L k.val) 1 := by
  revert L k; decide +kernel
theorem off67_eq (L : grid0.Coords) (k : Fin k0_t1_loop.trips) : k0_off67 L k = outOff (img L k.val) 1 := by
  revert L k; decide +kernel

/-- The first and third conditions hold from the second trip on, the second and fourth up to the last but one. -/
theorem cond1_iff (k : Fin k0_t1_loop.trips) : k0_cond1 k = 1#1 ↔ 0 < k.val := by revert k; decide +kernel
theorem cond2_iff (k : Fin k0_t1_loop.trips) : k0_cond2 k = 1#1 ↔ k.val + 1 < 24 := by revert k; decide +kernel
theorem cond3_iff (k : Fin k0_t1_loop.trips) : k0_cond3 k = 1#1 ↔ 0 < k.val := by revert k; decide +kernel
theorem cond4_iff (k : Fin k0_t1_loop.trips) : k0_cond4 k = 1#1 ↔ k.val + 1 < 24 := by revert k; decide +kernel

theorem off4_eq (L : grid0.Coords) (k : Fin k0_t1_loop.trips) : k0_cond1 k = 1#1 → k0_off4 L k = outOff (img L (k.val - 1)) 0 := by
  revert L k; decide +kernel
theorem off35_eq (L : grid0.Coords) (k : Fin k0_t1_loop.trips) : k0_cond2 k = 1#1 → k0_off35 L k = inOff (img L (k.val + 1)) 0 := by
  revert L k; decide +kernel
theorem off37_eq (L : grid0.Coords) (k : Fin k0_t1_loop.trips) : k0_cond3 k = 1#1 → k0_off37 L k = outOff (img L (k.val - 1)) 1 := by
  revert L k; decide +kernel
theorem off68_eq (L : grid0.Coords) (k : Fin k0_t1_loop.trips) : k0_cond4 k = 1#1 → k0_off68 L k = inOff (img L (k.val + 1)) 1 := by
  revert L k; decide +kernel

end Cert.Proof.Shift

end
-- ==== Proof.Places.lean ====
/-
  The slices the copies move: the windows of the input and the half images of the result, the elements each holds, and what a
  half image is in terms of its window.
-/
module

public import proofs.«01_k».proof.Proof.Offsets

@[expose] public section

noncomputable section

namespace Cert.Proof.Shift

open Cert.KernelIdeal Cert.KernelIdeal.Gen

open Idealize.ShloMosaic Idealize.ShloMosaic.ValueIdx

variable {F : FTy → Type}

/-! ## The slices -/

local notation "xV" => (Memref.whole Cert.KernelIdeal.main_arg0_scv : Memref Cert.KernelIdeal.sig Kind.scVector Space.hbm Cert.KernelIdeal.S8x96x224x224 EltTy.f32)
local notation "oV" => (Memref.whole Cert.KernelIdeal.main_v0_scv : Memref Cert.KernelIdeal.sig Kind.scVector Space.hbm Cert.KernelIdeal.S8x96x224x224 EltTy.f32)

/-- The window of the input at `off` and the half image of the result at `off`, as the copies spell them. -/
abbrev inM (off : Fin 4 → ℕ) (inb : ∀ a, off a + S1x1x120x224.size a ≤ S8x96x224x224.size a) : Memref sig .scVector .hbm S120x224 .f32 :=
  ((xV).slice (Rect.unit (s := S8x96x224x224) off S1x1x120x224.size inb) (fun _ => rfl)).squeeze S120x224 squeezes_S1x1x120x224_S120x224
abbrev outM (off : Fin 4 → ℕ) (inb : ∀ a, off a + S1x1x112x224.size a ≤ S8x96x224x224.size a) : Memref sig .scVector .hbm S112x224 .f32 :=
  ((oV).slice (Rect.unit (s := S8x96x224x224) off S1x1x112x224.size inb) (fun _ => rfl)).squeeze S112x224 squeezes_S1x1x112x224_S112x224

theorem inM_congr {off off' : Fin 4 → ℕ} (h : off = off') (inb) : inM off inb = inM off' (h ▸ inb) := by subst h; rfl
theorem outM_congr {off off' : Fin 4 → ℕ} (h : off = off') (inb) : outM off inb = outM off' (h ▸ inb) := by subst h; rfl

theorem inOff_inb {n h : ℕ} (hn : n < 768) (hh : h < 2) : ∀ a, inOff n h a + S1x1x120x224.size a ≤ S8x96x224x224.size a := by
  intro a
  match a with
  | 0 => show n / 96 + 1 ≤ 8; omega
  | 1 => show n % 96 + 1 ≤ 96; omega
  | 2 => show 104 * h + 120 ≤ 224; omega
  | 3 => show 0 + 224 ≤ 224; omega

/-- The elements of the result's half image at `outOff`. -/
theorem set_outM {n h : ℕ} (hn : n < 768) (hh : h < 2) (inb) : (outM (outOff n h) inb).view.set = piece n h := by
  rw [← set_outOff hn hh inb]
  show (((oV).view.slice (Rect.unit (s := S8x96x224x224) (outOff n h) S1x1x112x224.size inb)).reshape S112x224 squeezes_S1x1x112x224_S112x224.numel_eq).set = _
  rw [View.set_reshape]
  show ((View.whole (main_v0_scv : Ref sig .scVector)).slice _).set = _
  rw [View.set_slice]; exact Finset.map_refl

/-- Row `r`, column `w` of the window for half `h` of image `n`, in the input. -/
def inIdx {n h : ℕ} (hn : n < 768) (hh : h < 2) (p : S120x224.Idx) : S8x96x224x224.Idx :=
  ix4 ⟨n / 96, by omega⟩ ⟨n % 96, by omega⟩ ⟨104 * h + (p 0).val, by have : (p 0).val < 120 := (p 0).isLt; omega⟩ (p 1)

theorem emb_inM {n h : ℕ} (hn : n < 768) (hh : h < 2) (inb) (p : S120x224.Idx) :
    (inM (inOff n h) inb).view.emb p = inIdx hn hh p := by
  show (Rect.unit (s := S8x96x224x224) (inOff n h) S1x1x120x224.size inb).emb (Shape.reshapeEquiv squeezes_S1x1x120x224_S120x224.numel_eq p) = _
  have e : Shape.reshapeEquiv squeezes_S1x1x120x224_S120x224.numel_eq p = (ix4 0 0 (p 0) (p 1) : S1x1x120x224.Idx) :=
    (congrArg _ (eq_ix2 p)).trans (reshapeEquiv_ix2_11ab _ _ _)
  rw [e]
  funext a
  refine Fin.ext ?_
  rw [Rect.emb_apply]
  match a with
  | 0 => simp [inIdx]
  | 1 => simp [inIdx]
  | 2 => simp [inIdx]
  | 3 => simp [inIdx]

/-- Row `r`, column `w` of half `h` of image `n`, in the result. -/
def outIdx {n h : ℕ} (hn : n < 768) (hh : h < 2) (p : S112x224.Idx) : S8x96x224x224.Idx :=
  ix4 ⟨n / 96, by omega⟩ ⟨n % 96, by omega⟩ ⟨112 * h + (p 0).val, by have : (p 0).val < 112 := (p 0).isLt; omega⟩ (p 1)

theorem emb_outM {n h : ℕ} (hn : n < 768) (hh : h < 2) (inb) (p : S112x224.Idx) :
    (outM (outOff n h) inb).view.emb p = outIdx hn hh p := by
  show (Rect.unit (s := S8x96x224x224) (outOff n h) S1x1x112x224.size inb).emb (Shape.reshapeEquiv squeezes_S1x1x112x224_S112x224.numel_eq p) = _
  have e : Shape.reshapeEquiv squeezes_S1x1x112x224_S112x224.numel_eq p = (ix4 0 0 (p 0) (p 1) : S1x1x112x224.Idx) :=
    (congrArg _ (eq_ix2 p)).trans (reshapeEquiv_ix2_11ab _ _ _)
  rw [e]
  funext a
  refine Fin.ext ?_
  rw [Rect.emb_apply]
  match a with
  | 0 => simp [outIdx]
  | 1 => simp [outIdx]
  | 2 => simp [outIdx]
  | 3 => simp [outIdx]

variable [FloatOps F]

/-- The window for half `h` of image `n`, read off the input `X`. -/
def win (X : S8x96x224x224.Idx → F .f32) {n h : ℕ} (hn : n < 768) (hh : h < 2) (p : S120x224.Idx) : F .f32 := X (inIdx hn hh p)

/-- Half `h` of the result image whose window is `W`. -/
def half (Y : S224.Idx → F .f32) {h : ℕ} (hh : h < 2) (W : S120x224.Idx → F .f32) (p : S112x224.Idx) : F .f32 :=
  W (ix2 ⟨(tab Y (ix1 ⟨112 * h + (p 0).val, by have : (p 0).val < 112 := (p 0).isLt; omega⟩)).toNat, Nat.lt_succ_of_le (tab_le _ _)⟩ (p 1))

/-- Half `h` of image `n` of the result is the half computed from its window. -/
theorem out_outIdx (X : S8x96x224x224.Idx → F .f32) (Y : S224.Idx → F .f32) {n h : ℕ} (hn : n < 768) (hh : h < 2) (p : S112x224.Idx) :
    out X Y (outIdx hn hh p) = half Y hh (win X hn hh) p := by
  have hp : (p 0).val < 112 := (p 0).isLt
  unfold out half win
  refine congrArg X ?_
  have hs : start (112 * h + (p 0).val) = 104 * h := by
    unfold start; rcases (by omega : h = 0 ∨ h = 1) with rfl | rfl <;> simp [hp]
  unfold inIdx outIdx srcRow
  simp only [ix4_0, ix4_1, ix4_2, ix4_3, ix2_0, ix2_1]
  congr 1
  exact Fin.ext (by simp only [hs])

end Cert.Proof.Shift

end
-- ==== Proof.Copies.lean ====
/-
  The copies: a window in, a half image out, each issued on a semaphore of its own and waited for later.
-/
module

public import proofs.«01_k».proof.Proof.Places

@[expose] public section

noncomputable section

namespace Cert.Proof.Shift

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S8x96x224x224 EltTy.f32)
local notation "yV" => (Memref.whole Cert.KernelIdeal.main_arg2_scv : Memref Cert.KernelIdeal.sig Kind.scVector Space.hbm Cert.KernelIdeal.S224 EltTy.f32)
local notation "oV" => (Memref.whole Cert.KernelIdeal.main_v0_scv : Memref Cert.KernelIdeal.sig Kind.scVector Space.hbm Cert.KernelIdeal.S8x96x224x224 EltTy.f32)
local notation "bY" => (Memref.whole Cert.KernelIdeal.cc0_scratch0 : Memref Cert.KernelIdeal.sig Kind.scVector Space.vmem Cert.KernelIdeal.S224 EltTy.f32)
local notation "bT" => (Memref.whole Cert.KernelIdeal.cc0_scratch1 : Memref Cert.KernelIdeal.sig Kind.scVector Space.vmem Cert.KernelIdeal.S224 EltTy.i32)
local notation "bS" => (Memref.whole Cert.KernelIdeal.cc0_scratch2 : Memref Cert.KernelIdeal.sig Kind.scVector Space.smem Cert.KernelIdeal.S224 EltTy.i32)
local notation "bI0" => (Memref.whole Cert.KernelIdeal.cc0_scratch3 : Memref Cert.KernelIdeal.sig Kind.scVector Space.vmem Cert.KernelIdeal.S120x224 EltTy.f32)
local notation "bI1" => (Memref.whole Cert.KernelIdeal.cc0_scratch4 : Memref Cert.KernelIdeal.sig Kind.scVector Space.vmem Cert.KernelIdeal.S120x224 EltTy.f32)
local notation "bO0" => (Memref.whole Cert.KernelIdeal.cc0_scratch5 : Memref Cert.KernelIdeal.sig Kind.scVector Space.vmem Cert.KernelIdeal.S112x224 EltTy.f32)
local notation "bO1" => (Memref.whole Cert.KernelIdeal.cc0_scratch6 : Memref Cert.KernelIdeal.sig Kind.scVector Space.vmem Cert.KernelIdeal.S112x224 EltTy.f32)

variable (d : Dev nD) (L : grid0.Coords)

/-- The task's thread. -/
abbrev thr : Thread nD τ := V d (cV L) (jV L)

/-- A buffer of the task holds something; and holds, as it is read, `g`. -/
abbrev held {s : Shape} (b : Memref sig .scVector .vmem s .f32) : sProp 𝕄 := iprop(∃ f, b.view.loc (thr d L) ↦{fullShare} f)
abbrev holds {s : Shape} (b : Memref sig .scVector .vmem s .f32) (g : s.Idx → F .f32) : sProp 𝕄 :=
  iprop(∃ f, ⌜b.view.read (Elt F) f = g⌝ ∗ b.view.loc (thr d L) ↦{fullShare} f)

/-- The task owes what it owes, whatever waits it has recorded. -/
abbrev owing (O : CellTallies nD τ sig (HIx 1)) : sProp 𝕄 := iprop(∃ W, owes (thr d L) O W)

/-- The input read at share `q`, and a part of it. -/
abbrev reads (q : PosShare TreeShare) (X : S8x96x224x224.Idx → F .f32) : sProp 𝕄 :=
  iprop((xV).view.loc (thr d L) ↦{q} (X : Buf (Elt F) ((xV).view.loc (thr d L))))
abbrev readsOn (S : Finset S8x96x224x224.Idx) (q : PosShare TreeShare) (X : S8x96x224x224.Idx → F .f32) : sProp 𝕄 :=
  iprop((xV).view.loc (thr d L) ↦[(S : Finset (Idx ((xV).view.loc (thr d L))))]{q} (X : Buf (Elt F) ((xV).view.loc (thr d L))))

/-- The result's elements `S` at `f`. -/
abbrev resOn (S : Finset S8x96x224x224.Idx) (f : S8x96x224x224.Idx → F .f32) : sProp 𝕄 :=
  iprop((oV).view.loc (thr d L) ↦[(S : Finset (Idx ((oV).view.loc (thr d L))))]{fullShare} (f : Buf (Elt F) ((oV).view.loc (thr d L))))

/-- The window for half `h` of image `n` is on its way into `b`. -/
def inFly (b : Memref sig .scVector .vmem S120x224 .f32) (s : DmaSem sig) (q : PosShare TreeShare) (X : S8x96x224x224.Idx → F .f32) {n h : ℕ}
    (hn : n < 768) (hh : h < 2) : sProp 𝕄 :=
  iprop(Flight countersEmb (thr d L) (.dma s) (default : HIx 1) b.view.dmaCredit
      iprop(holds d L b (win X hn hh) ∗ readsOn d L (inM (inOff n h) (inOff_inb hn hh)).view.set q X)
    ∗ readsOn d L (Finset.univ \ (inM (inOff n h) (inOff_inb hn hh)).view.set) q X)

/-- Half `h` of image `n` of the result is on its way out of `b`. -/
def outFly (b : Memref sig .scVector .vmem S112x224 .f32) (s : DmaSem sig) (X : S8x96x224x224.Idx → F .f32) (Y : S224.Idx → F .f32) (n h : ℕ) : sProp 𝕄 :=
  Flight countersEmb (thr d L) (.dma s) (default : HIx 1)
    (outM (outOff 0 0) (outOff_inb (by decide) (by decide))).view.dmaCredit
    iprop(resOn d L (piece n h) (out X Y) ∗ held d L b)

theorem issueIn {b : Memref sig .scVector .vmem S120x224 .f32} {s : DmaSem sig} {off : Fin 4 → ℕ} {inb} {n h : ℕ} (hn : n < 768) (hh : h < 2)
    (ho : off = inOff n h) {e1 e2 e3} (q : PosShare TreeShare) (X : S8x96x224x224.Idx → F .f32) :
    iprop(reads d L q X ∗ held d L b ∗ semVal (thr d L, .dma s) 0)
      ⊢ wp frame (wpE (defs₀ (F := F)) 𝒱₀ (thr d L) none) Set.univ
          (Prog.lift (.enqueueDma (inM off inb) (.here b) (.dma s) e1 e2 e3)) fun _ => inFly d L b s q X hn hh := by
  subst ho
  iintro ⟨Hx, ⟨%f, Hb⟩, Hs⟩
  ihave Hx := (pointsTo_split_subset (S := Finset.univ) (Finset.subset_univ ((inM (inOff n h) inb).view.set))).1 $$ Hx
  icases Hx with ⟨Hx, Hr⟩
  iapply (wp_dmaLocal countersEmb 𝒱₀ (thr d L) none (default : HIx 1) b.view.dmaCredit rfl (View.amount_pos b.view (.dma s) (show 0 < S120x224.numel by decide)) (Finset.subset_univ _)) $$ [Hx Hb Hs]
  · isplitl [Hx]; · iexact Hx
    isplitl [Hb]; · iexact Hb
    iexact Hs
  iintro HF
  rw [wp_ret]; imodintro
  unfold inFly
  isplitl [HF]
  · iapply (Flight_mono countersEmb (thr d L) ?_) $$ HF
    iintro ⟨Hb, Hx⟩
    isplitl [Hb]
    · iexists _; isplitr
      swap; · iexact Hb
      ipureintro
      rw [View.read_write_univ]
      exact funext fun p => congrArg X (emb_inM hn hh inb p)
    · iexact Hx
  · iexact Hr

theorem waitIn {b : Memref sig .scVector .vmem S120x224 .f32} {s : DmaSem sig} {src : Memref sig .scVector .hbm S120x224 .f32} {n h : ℕ} (hn : n < 768) (hh : h < 2)
    {e1 e2} (q : PosShare TreeShare) (X : S8x96x224x224.Idx → F .f32) (O : CellTallies nD τ sig (HIx 1)) :
    iprop(inFly d L b s q X hn hh ∗ MayWaits (thr d L) (default : HIx 1) O ∗ owing d L O)
      ⊢ wp frame (wpE (defs₀ (F := F)) 𝒱₀ (thr d L) none) Set.univ
          (Prog.lift (.waitDma2 s src b e1 e2)) fun _ => iprop(holds d L b (win X hn hh) ∗ reads d L q X ∗ semVal (thr d L, .dma s) 0 ∗ owing d L O) := by
  unfold inFly
  iintro ⟨⟨HF, Hr⟩, #Hmw, ⟨%W, HO⟩⟩
  iapply (wp_waitLocalO countersEmb 𝒱₀ (thr d L) none (default : HIx 1) rfl) $$ [HF HO]
  · isplitl [HF]; · iexact HF
    isplitl [HO]; · iexact HO
    iapply (MayWaits.elim (SemLoc.dma s)) $$ Hmw
  iintro ⟨⟨Hb, Hx⟩, Hs, HO⟩
  rw [wp_ret]; imodintro
  isplitl [Hb]; · iexact Hb
  isplitl [Hx Hr]
  · iapply (pointsTo_split_subset (S := Finset.univ) (Finset.subset_univ ((inM (inOff n h) (inOff_inb hn hh)).view.set))).2
    isplitl [Hx]; · iexact Hx
    iexact Hr
  isplitl [Hs]; · iexact Hs
  iexists _; iexact HO

theorem issueOut {b : Memref sig .scVector .vmem S112x224 .f32} (hb : b.view.set = Finset.univ) {s : DmaSem sig} {off : Fin 4 → ℕ} {inb} {n h : ℕ}
    (hn : n < 768) (hh : h < 2) (ho : off = outOff n h) {e1 e2 e3} (X : S8x96x224x224.Idx → F .f32) (Y : S224.Idx → F .f32) (f₀ : S8x96x224x224.Idx → F .f32) :
    iprop(holds d L b (half Y hh (win X hn hh)) ∗ resOn d L (piece n h) f₀ ∗ semVal (thr d L, .dma s) 0)
      ⊢ wp frame (wpE (defs₀ (F := F)) 𝒱₀ (thr d L) none) Set.univ
          (Prog.lift (.enqueueDma b (.here (outM off inb)) (.dma s) e1 e2 e3)) fun _ => outFly d L b s X Y n h := by
  subst ho
  iintro ⟨⟨%f, %hf, Hb⟩, Ho, Hs⟩
  iapply (wp_dmaLocal countersEmb 𝒱₀ (thr d L) none (default : HIx 1) (outM (outOff 0 0) (outOff_inb (by decide) (by decide))).view.dmaCredit rfl
    (View.amount_pos (outM (outOff n h) inb).view (.dma s) (show 0 < S112x224.numel by decide)) (Sd := piece n h) (fd := f₀) (subset_of_eq (set_outM hn hh inb))) $$ [Hb Ho Hs]
  · isplitl [Hb]; · rw [hb]; iexact Hb
    isplitl [Ho]; · iexact Ho
    iexact Hs
  iintro HF
  rw [wp_ret]; imodintro
  unfold outFly
  iapply (Flight_mono countersEmb (thr d L) ?_) $$ HF
  rw [hb]
  iintro ⟨Ho, Hb⟩
  isplitl [Ho]
  · have e : ∀ i ∈ piece n h, (outM (outOff n h) inb).view.write (Elt F) f₀ (ReadAs.same.apply (b.view.read (Elt F) f)) Finset.univ i = out X Y i := by
      intro i hi
      rw [← set_outM hn hh inb] at hi
      obtain ⟨p, -, rfl⟩ := Finset.mem_map.mp hi
      rw [View.write_emb_of_mem _ _ (Finset.mem_univ _), emb_outM hn hh inb p, out_outIdx]
      exact congrFun hf p
    rw [show resOn d L (piece n h) (out X Y) = resOn d L (piece n h) ((outM (outOff n h) inb).view.write (Elt F) f₀ (ReadAs.same.apply (b.view.read (Elt F) f)) Finset.univ)
      from (pointsTo_congr e).symm]
    iexact Ho
  · iexists f; iexact Hb

theorem waitOut {b : Memref sig .scVector .vmem S112x224 .f32} {s : DmaSem sig} {off : Fin 4 → ℕ} {inb} {n h : ℕ} {e1 e2}
    (X : S8x96x224x224.Idx → F .f32) (Y : S224.Idx → F .f32) (O : CellTallies nD τ sig (HIx 1)) :
    iprop(outFly d L b s X Y n h ∗ MayWaits (thr d L) (default : HIx 1) O ∗ owing d L O)
      ⊢ wp frame (wpE (defs₀ (F := F)) 𝒱₀ (thr d L) none) Set.univ
          (Prog.lift (.waitDma2 s b (outM off inb) e1 e2)) fun _ => iprop(held d L b ∗ resOn d L (piece n h) (out X Y) ∗ semVal (thr d L, .dma s) 0 ∗ owing d L O) := by
  unfold outFly
  iintro ⟨HF, #Hmw, ⟨%W, HO⟩⟩
  iapply (wp_waitLocalO countersEmb 𝒱₀ (thr d L) none (default : HIx 1) rfl) $$ [HF HO]
  · isplitl [HF]; · iexact HF
    isplitl [HO]; · iexact HO
    iapply (MayWaits.elim (SemLoc.dma s)) $$ Hmw
  iintro ⟨⟨Ho, Hb⟩, Hs, HO⟩
  rw [wp_ret]; imodintro
  isplitl [Hb]; · iexact Hb
  isplitl [Ho]; · iexact Ho
  isplitl [Hs]; · iexact Hs
  iexists _; iexact HO

end Cert.Proof.Shift

end
-- ==== Proof.Steps.lean ====
/-
  The steps of one trip for one half of an image, with what is held before and after each: the window's copy, the half image's
  copy and the pieces of the result.
-/
module

public import proofs.«01_k».proof.Proof.Copies

@[expose] public section

noncomputable section

namespace Cert.Proof.Shift

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S8x96x224x224 EltTy.f32)
local notation "yV" => (Memref.whole Cert.KernelIdeal.main_arg2_scv : Memref Cert.KernelIdeal.sig Kind.scVector Space.hbm Cert.KernelIdeal.S224 EltTy.f32)
local notation "oV" => (Memref.whole Cert.KernelIdeal.main_v0_scv : Memref Cert.KernelIdeal.sig Kind.scVector Space.hbm Cert.KernelIdeal.S8x96x224x224 EltTy.f32)
local notation "bY" => (Memref.whole Cert.KernelIdeal.cc0_scratch0 : Memref Cert.KernelIdeal.sig Kind.scVector Space.vmem Cert.KernelIdeal.S224 EltTy.f32)
local notation "bT" => (Memref.whole Cert.KernelIdeal.cc0_scratch1 : Memref Cert.KernelIdeal.sig Kind.scVector Space.vmem Cert.KernelIdeal.S224 EltTy.i32)
local notation "bS" => (Memref.whole Cert.KernelIdeal.cc0_scratch2 : Memref Cert.KernelIdeal.sig Kind.scVector Space.smem Cert.KernelIdeal.S224 EltTy.i32)
local notation "bI0" => (Memref.whole Cert.KernelIdeal.cc0_scratch3 : Memref Cert.KernelIdeal.sig Kind.scVector Space.vmem Cert.KernelIdeal.S120x224 EltTy.f32)
local notation "bI1" => (Memref.whole Cert.KernelIdeal.cc0_scratch4 : Memref Cert.KernelIdeal.sig Kind.scVector Space.vmem Cert.KernelIdeal.S120x224 EltTy.f32)
local notation "bO0" => (Memref.whole Cert.KernelIdeal.cc0_scratch5 : Memref Cert.KernelIdeal.sig Kind.scVector Space.vmem Cert.KernelIdeal.S112x224 EltTy.f32)
local notation "bO1" => (Memref.whole Cert.KernelIdeal.cc0_scratch6 : Memref Cert.KernelIdeal.sig Kind.scVector Space.vmem Cert.KernelIdeal.S112x224 EltTy.f32)

variable (d : Dev nD) (L : grid0.Coords)

/-- One program after another. -/
theorem seq {A B : Type} {p : Prog (TpuEff nD τ sig (Elt F) Λ₀ (.scVector (cV L) (jV L))) A} {k : A → Prog (TpuEff nD τ sig (Elt F) Λ₀ (.scVector (cV L) (jV L))) B}
    {Pr : sProp 𝕄} {Q : A → sProp 𝕄} {R : B → sProp 𝕄}
    (hp : Pr ⊢ wp frame (wpE (defs₀ (F := F)) 𝒱₀ (thr d L) none) Set.univ p Q) :
    Pr ⊢ iprop((∀ a, Q a -∗ wp frame (wpE (defs₀ (F := F)) 𝒱₀ (thr d L) none) Set.univ (k a) R)
      -∗ wp frame (wpE (defs₀ (F := F)) 𝒱₀ (thr d L) none) Set.univ (p >>= k) R) := by
  iintro HP Hk
  rw [wp_bind]
  iapply (wp_wand_r _ _ _ (Q := Q)) $$ [HP Hk]
  isplitl [HP]
  · iapply hp $$ HP
  · iexact Hk

/-! ## The pieces of the result at each trip -/

section
variable (X : S8x96x224x224.Idx → F .f32) (Y : S224.Idx → F .f32) (f₀ : S8x96x224x224.Idx → F .f32) (h : ℕ)

/-- Entering trip `k`: the piece of the trip before is still on its way. -/
def pcs (k : ℕ) : sProp 𝕄 :=
  bigSep Finset.univ fun j : Fin 24 => if j.val + 1 < k then resOn d L (piece (img L j.val) h) (out X Y)
    else if j.val + 1 = k then iprop(emp) else resOn d L (piece (img L j.val) h) f₀

/-- Inside trip `k`: every piece is here, those before `k` computed. -/
def mid (k : ℕ) : sProp 𝕄 :=
  bigSep Finset.univ fun j : Fin 24 => if j.val < k then resOn d L (piece (img L j.val) h) (out X Y) else resOn d L (piece (img L j.val) h) f₀

theorem mid_zero : pcs d L X Y f₀ h 0 = mid d L X Y f₀ h 0 := by
  unfold pcs mid
  refine BI.bigSep_congr fun j _ => ?_
  rw [if_neg (by omega), if_neg (by omega), if_neg (by omega)]

theorem mid_last : mid d L X Y f₀ h 24 = bigSep Finset.univ fun j : Fin 24 => resOn d L (piece (img L j.val) h) (out X Y) := by
  unfold mid
  exact BI.bigSep_congr fun j _ => if_pos j.isLt

theorem pcs_start : (bigSep Finset.univ fun j : Fin 24 => resOn d L (piece (img L j.val) h) f₀) = pcs d L X Y f₀ h 0 := by
  unfold pcs
  refine BI.bigSep_congr fun j _ => ?_
  rw [if_neg (by omega), if_neg (by omega)]

theorem backIn {k : ℕ} (hk : k + 1 ≤ 24) :
    iprop(pcs d L X Y f₀ h (k + 1) ∗ resOn d L (piece (img L k) h) (out X Y)) ⊢ mid d L X Y f₀ h (k + 1) := by
  have hm : (⟨k, hk⟩ : Fin 24) ∈ (Finset.univ : Finset (Fin 24)) := Finset.mem_univ _
  unfold pcs mid
  rw [SparseCore.bigSep_erase' hm, SparseCore.bigSep_erase' hm (Φ := fun j : Fin 24 => if j.val < k + 1 then _ else _)]
  rw [if_neg (lt_irrefl _), if_pos rfl, if_pos (Nat.lt_succ_self k)]
  refine (BI.sep_mono_l BI.emp_sep.1).trans (BI.sep_comm.trans (BI.sep_mono_r (Entails.of_eq (BI.bigSep_congr fun j hj => ?_))))
  have hne : j.val ≠ k := fun e => (Finset.mem_erase.mp hj).1 (Fin.ext e)
  by_cases hlt : j.val + 1 < k + 1
  · rw [if_pos hlt, if_pos (by omega)]
  · rw [if_neg hlt, if_neg (by omega), if_neg (by omega)]

theorem takeOut {k : ℕ} (hk : k < 24) :
    mid d L X Y f₀ h k ⊢ iprop(resOn d L (piece (img L k) h) f₀ ∗ pcs d L X Y f₀ h (k + 1)) := by
  have hm : (⟨k, hk⟩ : Fin 24) ∈ (Finset.univ : Finset (Fin 24)) := Finset.mem_univ _
  unfold pcs mid
  rw [SparseCore.bigSep_erase' hm, SparseCore.bigSep_erase' hm (Φ := fun j : Fin 24 => if j.val + 1 < k + 1 then _ else _)]
  rw [if_neg (lt_irrefl _), if_neg (lt_irrefl _), if_pos rfl]
  refine BI.sep_mono_r (BI.Entails.trans (Entails.of_eq (BI.bigSep_congr fun j hj => ?_)) BI.emp_sep.2)
  have hne : j.val ≠ k := fun e => (Finset.mem_erase.mp hj).1 (Fin.ext e)
  by_cases hlt : j.val < k
  · rw [if_pos hlt, if_pos (by omega)]
  · rw [if_neg hlt, if_neg (by omega), if_neg (by omega)]

end

/-! ## A trip's steps for one half -/

variable (X : S8x96x224x224.Idx → F .f32) (Y : S224.Idx → F .f32) (f₀ : S8x96x224x224.Idx → F .f32) (q : PosShare TreeShare) (O : CellTallies nD τ sig (HIx 1))

/-- The window's side entering trip `k`: on its way, or nothing after the last. -/
def inSt (bI : Memref sig .scVector .vmem S120x224 .f32) (sI : DmaSem sig) {h : ℕ} (hh : h < 2) (k : ℕ) : sProp 𝕄 :=
  if hk : k < 24 then inFly d L bI sI q X (img_lt L hk) hh else iprop(held d L bI ∗ reads d L q X ∗ semVal (thr d L, .dma sI) 0)

/-- The half image's side entering trip `k`: nothing yet, or the one of the trip before on its way. -/
def outSt (bO : Memref sig .scVector .vmem S112x224 .f32) (sO : DmaSem sig) (h : ℕ) : ℕ → sProp 𝕄
  | 0 => iprop(held d L bO ∗ semVal (thr d L, .dma sO) 0)
  | k + 1 => outFly d L bO sO X Y (img L k) h

theorem stepWaitIn {bI : Memref sig .scVector .vmem S120x224 .f32} {sI : DmaSem sig} {src : Memref sig .scVector .hbm S120x224 .f32} {h : ℕ} {hh : h < 2} {k : ℕ}
    (hk : k < 24) {e1 e2} :
    iprop(inSt d L X q bI sI hh k ∗ MayWaits (thr d L) (default : HIx 1) O ∗ owing d L O)
      ⊢ wp frame (wpE (defs₀ (F := F)) 𝒱₀ (thr d L) none) Set.univ (Prog.lift (.waitDma2 sI src bI e1 e2))
          fun _ => iprop(holds d L bI (win X (img_lt L hk) hh) ∗ reads d L q X ∗ semVal (thr d L, .dma sI) 0 ∗ owing d L O) := by
  rw [inSt, dif_pos hk]
  exact waitIn d L _ _ _ _ _

theorem stepWaitOut {bO : Memref sig .scVector .vmem S112x224 .f32} {sO : DmaSem sig} {h : ℕ} {k : ℕ} (hk : k < 24) {C : Prop} [Decidable C] (hC : C ↔ 0 < k)
    {off : C → Fin 4 → ℕ} {inb : ∀ hc, ∀ a, off hc a + S1x1x112x224.size a ≤ S8x96x224x224.size a} {e1} {e2 : ∀ hc, (outM (off hc) (inb hc)).view.WordExact}
    {B : Type} {p : Prog (TpuEff nD τ sig (Elt F) Λ₀ (.scVector (cV L) (jV L))) B} {R : B → sProp 𝕄} :
    iprop(outSt d L X Y bO sO h k ∗ pcs d L X Y f₀ h k ∗ MayWaits (thr d L) (default : HIx 1) O ∗ owing d L O)
      ⊢ iprop((iprop(held d L bO ∗ semVal (thr d L, .dma sO) 0 ∗ mid d L X Y f₀ h k ∗ owing d L O)
          -∗ wp frame (wpE (defs₀ (F := F)) 𝒱₀ (thr d L) none) Set.univ p R)
        -∗ wp frame (wpE (defs₀ (F := F)) 𝒱₀ (thr d L) none) Set.univ
          (if hc : C then (do Prog.lift (.waitDma2 sO bO (outM (off hc) (inb hc)) e1 (e2 hc)); p) else p) R) := by
  rcases k with _ | k
  · rw [dif_neg fun hc => absurd (hC.mp hc) (lt_irrefl 0), outSt, mid_zero]
    iintro ⟨⟨Hb, Hs⟩, Hp, -, HO⟩ Hk
    iapply Hk
    isplitl [Hb]; · iexact Hb
    isplitl [Hs]; · iexact Hs
    isplitl [Hp]; · iexact Hp
    iexact HO
  · have hc : C := hC.mpr (Nat.succ_pos k)
    rw [dif_pos hc, outSt]
    iintro ⟨Hst, Hp, #Hmw, HO⟩ Hk
    iapply (seq d L (waitOut d L X Y O)) $$ [Hst HO]
    · isplitl [Hst]; · iexact Hst
      isplitr; · iexact Hmw
      iexact HO
    iintro %a ⟨Hb, Hr, Hs, HO⟩
    iapply Hk
    isplitl [Hb]; · iexact Hb
    isplitl [Hs]; · iexact Hs
    isplitl [Hp Hr]
    · iapply (backIn d L X Y f₀ h (Nat.le_of_lt hk))
      isplitl [Hp]; · iexact Hp
      iexact Hr
    iexact HO

theorem stepIssueOut {bO : Memref sig .scVector .vmem S112x224 .f32} (hb : bO.view.set = Finset.univ) {sO : DmaSem sig} {h : ℕ} (hh : h < 2) {k : ℕ} (hk : k < 24)
    {off : Fin 4 → ℕ} {inb} (ho : off = outOff (img L k) h) {e1 e2 e3} :
    iprop(holds d L bO (half Y hh (win X (img_lt L hk) hh)) ∗ mid d L X Y f₀ h k ∗ semVal (thr d L, .dma sO) 0)
      ⊢ wp frame (wpE (defs₀ (F := F)) 𝒱₀ (thr d L) none) Set.univ (Prog.lift (.enqueueDma bO (.here (outM off inb)) (.dma sO) e1 e2 e3))
          fun _ => iprop(outSt d L X Y bO sO h (k + 1) ∗ pcs d L X Y f₀ h (k + 1)) := by
  iintro ⟨Hb, Hm, Hs⟩
  ihave Hm := (takeOut d L X Y f₀ h hk) $$ Hm
  icases Hm with ⟨Hr, Hp⟩
  iapply (wp_wand_r _ _ _) $$ [Hb Hr Hs Hp]
  isplitl [Hb Hr Hs]
  · iapply (issueOut d L hb (img_lt L hk) hh ho X Y f₀)
    isplitl [Hb]; · iexact Hb
    isplitl [Hr]; · iexact Hr
    iexact Hs
  iintro %a HF
  rw [outSt]
  isplitl [HF]; · iexact HF
  iexact Hp

theorem stepIssueIn {bI : Memref sig .scVector .vmem S120x224 .f32} {sI : DmaSem sig} {h : ℕ} (hh : h < 2) {k : ℕ} {C : Prop} [Decidable C] (hC : C ↔ k + 1 < 24)
    {off : C → Fin 4 → ℕ} {inb : ∀ hc, ∀ a, off hc a + S1x1x120x224.size a ≤ S8x96x224x224.size a} (ho : ∀ hc, off hc = inOff (img L (k + 1)) h)
    {e1 : ∀ hc, (inM (off hc) (inb hc)).view.WordExact} {e2} {e3 : ∀ hc, _}
    {B : Type} {p : Prog (TpuEff nD τ sig (Elt F) Λ₀ (.scVector (cV L) (jV L))) B} {R : B → sProp 𝕄} :
    iprop(held d L bI ∗ reads d L q X ∗ semVal (thr d L, .dma sI) 0)
      ⊢ iprop((inSt d L X q bI sI hh (k + 1) -∗ wp frame (wpE (defs₀ (F := F)) 𝒱₀ (thr d L) none) Set.univ p R)
        -∗ wp frame (wpE (defs₀ (F := F)) 𝒱₀ (thr d L) none) Set.univ
          (if hc : C then (do Prog.lift (.enqueueDma (inM (off hc) (inb hc)) (.here bI) (.dma sI) (e1 hc) e2 (e3 hc)); p) else p) R) := by
  iintro ⟨Hb, Hx, Hs⟩ Hk
  by_cases hc : C
  · rw [dif_pos hc]
    iapply (seq d L (issueIn d L (img_lt L (hC.mp hc)) hh (ho hc) q X)) $$ [Hb Hx Hs]
    · isplitl [Hx]; · iexact Hx
      isplitl [Hb]; · iexact Hb
      iexact Hs
    iintro %a HF
    iapply Hk
    rw [inSt, dif_pos (hC.mp hc)]
    iexact HF
  · rw [dif_neg hc]
    iapply Hk
    rw [inSt, dif_neg fun e => hc (hC.mpr e)]
    isplitl [Hb]; · iexact Hb
    isplitl [Hx]; · iexact Hx
    iexact Hs

end Cert.Proof.Shift

end
-- ==== Proof.Rows.lean ====
/-
  The two inner loops: each fills a half image row by row, copying the row that the table names out of the window in fourteen
  groups of sixteen lanes.
-/
module

public import proofs.«01_k».proof.Proof.Places
public import Idealize.ShloMosaic.Lib.Pipeline.Value

@[expose] public section

noncomputable section

namespace Cert.Proof.Shift

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S8x96x224x224 EltTy.f32)
local notation "yV" => (Memref.whole Cert.KernelIdeal.main_arg2_scv : Memref Cert.KernelIdeal.sig Kind.scVector Space.hbm Cert.KernelIdeal.S224 EltTy.f32)
local notation "oV" => (Memref.whole Cert.KernelIdeal.main_v0_scv : Memref Cert.KernelIdeal.sig Kind.scVector Space.hbm Cert.KernelIdeal.S8x96x224x224 EltTy.f32)
local notation "bY" => (Memref.whole Cert.KernelIdeal.cc0_scratch0 : Memref Cert.KernelIdeal.sig Kind.scVector Space.vmem Cert.KernelIdeal.S224 EltTy.f32)
local notation "bT" => (Memref.whole Cert.KernelIdeal.cc0_scratch1 : Memref Cert.KernelIdeal.sig Kind.scVector Space.vmem Cert.KernelIdeal.S224 EltTy.i32)
local notation "bS" => (Memref.whole Cert.KernelIdeal.cc0_scratch2 : Memref Cert.KernelIdeal.sig Kind.scVector Space.smem Cert.KernelIdeal.S224 EltTy.i32)
local notation "bI0" => (Memref.whole Cert.KernelIdeal.cc0_scratch3 : Memref Cert.KernelIdeal.sig Kind.scVector Space.vmem Cert.KernelIdeal.S120x224 EltTy.f32)
local notation "bI1" => (Memref.whole Cert.KernelIdeal.cc0_scratch4 : Memref Cert.KernelIdeal.sig Kind.scVector Space.vmem Cert.KernelIdeal.S120x224 EltTy.f32)
local notation "bO0" => (Memref.whole Cert.KernelIdeal.cc0_scratch5 : Memref Cert.KernelIdeal.sig Kind.scVector Space.vmem Cert.KernelIdeal.S112x224 EltTy.f32)
local notation "bO1" => (Memref.whole Cert.KernelIdeal.cc0_scratch6 : Memref Cert.KernelIdeal.sig Kind.scVector Space.vmem Cert.KernelIdeal.S112x224 EltTy.f32)

variable (d : Dev nD) (L : grid0.Coords)

/-- The words of the table satisfy what the row loads ask of them. -/
theorem chk1_of_le {w : BitVec 32} (h : w.toNat ≤ 119) : k0_chk1 w := by
  unfold k0_chk1
  refine ⟨?_, ?_, ?_, ?_, ?_, ?_, ?_, ?_, ?_, ?_, ?_, ?_, ?_, ?_⟩ <;> intro a <;>
    match a with
    | 0 => show w.toNat + 1 ≤ 120; omega
    | 1 => exact Nat.le_of_ble_eq_true rfl

theorem chk2_of_le {w : BitVec 32} (h : w.toNat ≤ 119) : k0_chk2 w := by
  unfold k0_chk2
  refine ⟨?_, ?_, ?_, ?_, ?_, ?_, ?_, ?_, ?_, ?_, ?_, ?_, ?_, ?_⟩ <;> intro a <;>
    match a with
    | 0 => show w.toNat + 1 ≤ 120; omega
    | 1 => exact Nat.le_of_ble_eq_true rfl

/-- The rows below `n` of the half image are at `G`. -/
def RowsTo (G : S112x224.Idx → F .f32) (n : ℕ) (f : S112x224.Idx → F .f32) : Prop := ∀ p : S112x224.Idx, (p 0).val < n → f p = G p

/-- A store of sixteen lanes at row `n` from column `j` on, of what `G` has there. -/
structure IsChunk (G : S112x224.Idx → F .f32) (n j : ℕ) (p : View.Piece (Elt F) S112x224 .f32) : Prop where
  mem : ∀ y : S112x224.Idx, y ∈ p.1.set ↔ (y 0).val = n ∧ j ≤ (y 1).val ∧ (y 1).val < j + 16
  val : ∀ x, p.2 x = G (p.1.emb x)

/-- Sixteen lanes loaded from row `w` of the window and stored at row `n` make such a store. -/
theorem isChunk {G : S112x224.Idx → F .f32} {W : S120x224.Idx → F .f32} {w : BitVec 32} {n j : ℕ} (hw : w.toNat < 120)
    (hG : ∀ y : S112x224.Idx, (y 0).val = n → G y = W (ix2 ⟨w.toNat, hw⟩ (y 1)))
    (off : BitVec 32 → Fin 2 → ℕ) (ho : ∀ x, off x = ![x.toNat, j]) {off' : Fin 2 → ℕ} (ho' : off' = ![n, j])
    (inb : ∀ a, off w a + S1x16.size a ≤ S120x224.size a) (inb' : ∀ a, off' a + S1x16.size a ≤ S112x224.size a) (h h') :
    IsChunk G n j ⟨Rect.unit (s := S112x224) off' S1x16.size inb',
      shapeCast S1x16 (shapeCast S16 (fun i => W ((Rect.unit (s := S120x224) (off w) S1x16.size inb).idx i)) h) h'⟩ := by
  subst ho'
  generalize off w = o, ho w = ho at *
  subst ho
  constructor
  · intro y
    rw [Rect.mem_set_unit]
    constructor
    · intro hy
      have a0 : n ≤ (y 0).val ∧ (y 0).val < n + 1 := hy 0
      have a1 : j ≤ (y 1).val ∧ (y 1).val < j + 16 := hy 1
      omega
    · rintro ⟨e, h1, h2⟩ a
      match a with
      | 0 => show n ≤ (y 0).val ∧ (y 0).val < n + 1; omega
      | 1 => exact ⟨h1, h2⟩
  · intro x
    have hx : (x 0).val < 1 := (x 0).isLt
    have hc : shapeCast S1x16 (shapeCast S16 (fun i => W ((Rect.unit (s := S120x224) ![w.toNat, j] S1x16.size inb).idx i)) h) h' x
        = W ((Rect.unit (s := S120x224) ![w.toNat, j] S1x16.size inb).idx x) := by
      exact congrFun (shapeCast_shapeCast _ h h') x
    refine hc.trans (Eq.trans (congrArg W (funext fun a => Fin.ext ?_)) (hG _ ?_).symm)
    · match a with
      | 0 => show w.toNat + 1 * (x 0).val = w.toNat; omega
      | 1 => rfl
    · show n + 1 * (x 0).val = n; omega

theorem mem_of_forall₂ {G : S112x224.Idx → F .f32} {n : ℕ} : ∀ {js : List ℕ} {L : List (View.Piece (Elt F) S112x224 .f32)},
    List.Forall₂ (IsChunk G n) js L → (∀ p ∈ L, ∃ j, IsChunk G n j p) ∧ ∀ j ∈ js, ∃ p ∈ L, IsChunk G n j p
  | _, _, .nil => ⟨fun _ h => (nomatch h), fun _ h => (nomatch h)⟩
  | j :: _, p :: _, .cons hp hL => by
    obtain ⟨h1, h2⟩ := mem_of_forall₂ hL
    refine ⟨fun q hq => ?_, fun i hi => ?_⟩
    · rcases List.mem_cons.mp hq with rfl | hq
      · exact ⟨j, hp⟩
      · exact h1 q hq
    · rcases List.mem_cons.mp hi with rfl | hi
      · exact ⟨p, List.mem_cons_self, hp⟩
      · obtain ⟨q, hq, h⟩ := h2 i hi
        exact ⟨q, List.mem_cons_of_mem _ hq, h⟩

/-- Fourteen such stores finish row `n`. -/
theorem RowsTo.step {sp : Space} (v : View sig .scVector sp S112x224 .f32) {G : S112x224.Idx → F .f32} {n : ℕ} {f : v.ty.Contents (Elt F)}
    {L : List (View.Piece (Elt F) S112x224 .f32)} (hf : RowsTo G n (v.read (Elt F) f))
    (hL : List.Forall₂ (IsChunk G n) [208, 192, 176, 160, 144, 128, 112, 96, 80, 64, 48, 32, 16, 0] L) :
    RowsTo G (n + 1) (v.read (Elt F) (v.writes (Elt F) f L)) := by
  obtain ⟨h1, h2⟩ := mem_of_forall₂ hL
  intro y hy
  by_cases e : (y 0).val = n
  · refine View.read_writes_apply_of_pieces v f G L (fun p hp => (h1 p hp).choose_spec.val) y ?_
    have h224 : (y 1).val < 224 := (y 1).isLt
    have hj : (y 1).val / 16 * 16 ∈ [208, 192, 176, 160, 144, 128, 112, 96, 80, 64, 48, 32, 16, 0] := by
      have : (y 1).val / 16 < 14 := by omega
      generalize (y 1).val / 16 = q at this
      interval_cases q <;> decide
    obtain ⟨p, hp, hc⟩ := h2 _ hj
    exact ⟨p, hp, (hc.mem y).mpr (by omega)⟩
  · rw [View.read_writes_apply_of_forall_not_mem v f y L fun p hp hm => e ((((h1 p hp).choose_spec.mem y).mp hm).1)]
    exact hf y (by omega)

set_option maxHeartbeats 4000000 in
theorem rows0 (Y : S224.Idx → F .f32) (W : S120x224.Idx → F .f32) (k : Fin k0_t1_loop.trips) (a16 v c : BitVec 32) :
    iprop(((bS).view.loc (V d (cV L) (jV L)) ↦{fullShare} (tab Y : Buf (Elt F) ((bS).view.loc (V d (cV L) (jV L)))))
        ∗ ((bI0).view.loc (V d (cV L) (jV L)) ↦{fullShare} (W : Buf (Elt F) ((bI0).view.loc (V d (cV L) (jV L)))))
        ∗ (∃ f, (bO0).view.loc (V d (cV L) (jV L)) ↦{fullShare} f))
      ⊢ (wp frame (wpE (defs₀ (F := F)) 𝒱₀ (V d (cV L) (jV L)) none) Set.univ
          (Scf.Loop.for k0_t2_loop k0_t2_ok ⟨⟩ (k0_t2_body L xV (Memref.isWhole_whole _) yV (Memref.isWhole_whole _) oV (Memref.isWhole_whole _)
            bY (Memref.isWhole_whole _) bT (Memref.isWhole_whole _) bS (Memref.isWhole_whole _) bI0 (Memref.isWhole_whole _) bI1 (Memref.isWhole_whole _)
            bO0 (Memref.isWhole_whole _) bO1 (Memref.isWhole_whole _) cc0_scratch7 cc0_scratch8 cc0_scratch9 cc0_scratch10 cc0_scoped0 k a16 v c))
          fun _ => iprop(((bS).view.loc (V d (cV L) (jV L)) ↦{fullShare} (tab Y : Buf (Elt F) ((bS).view.loc (V d (cV L) (jV L)))))
            ∗ ((bI0).view.loc (V d (cV L) (jV L)) ↦{fullShare} (W : Buf (Elt F) ((bI0).view.loc (V d (cV L) (jV L)))))
            ∗ ((bO0).view.loc (V d (cV L) (jV L)) ↦{fullShare} (half Y (h := 0) (by decide) W : Buf (Elt F) ((bO0).view.loc (V d (cV L) (jV L))))) : sProp 𝕄)) := by
  iintro ⟨HS, HI, HO⟩
  sl_for (fun n (_ : PUnit) => iprop(((bS).view.loc (V d (cV L) (jV L)) ↦{fullShare} (tab Y : Buf (Elt F) ((bS).view.loc (V d (cV L) (jV L)))))
        ∗ ((bI0).view.loc (V d (cV L) (jV L)) ↦{fullShare} (W : Buf (Elt F) ((bI0).view.loc (V d (cV L) (jV L)))))
        ∗ (∃ f, ⌜RowsTo (half Y (h := 0) (by decide) W) n ((bO0).view.read (Elt F) f)⌝ ∗ (bO0).view.loc (V d (cV L) (jV L)) ↦{fullShare} f) : sProp 𝕄)) $$ [HS HI HO]
  · intro n acc
    iintro ⟨HS, HI, ⟨%f, %hf, HO⟩⟩
    have hle : ∀ (r : LoadRect S224) i, (View.readAt (Elt F) (bS).view r (tab Y) i : BitVec 32).toNat ≤ 119 := fun r i => tab_le Y (r.idx i)
    sl_respell [k0_t2_body]
    sl_exec (disch := (refine chk1_of_le ?_; sl_unfold_run_names; exact hle _ _))
    rw [wp_ret]; imodintro
    isplitl [HS]; · iexact HS
    isplitl [HI]; · iexact HI
    iexists _; isplitr
    swap; · iexact HO
    ipureintro
    have hn : n.val < 112 := n.isLt
    refine RowsTo.step (bO0).view hf ?_
    have hr : rows0.sl.r Y n = tab Y (ix1 ⟨n.val, by omega⟩) := by
      sl_unfold_run_names
      show tab Y _ = _
      congr 1
      funext a
      refine Fin.ext ?_
      match a with
      | 0 => show k0_off5 n 0 + 1 * 0 = n.val; rw [k0_off5_eq]; rfl
    have hw : (rows0.sl.r Y n).toNat < 120 := hr ▸ Nat.lt_succ_of_le (tab_le _ _)
    have hG : ∀ y : S112x224.Idx, (y 0).val = n.val → half Y (h := 0) (by decide) W y = W (ix2 ⟨(rows0.sl.r Y n).toNat, hw⟩ (y 1)) := by
      intro y hy
      unfold half
      simp only [hy, Nat.mul_zero, Nat.zero_add, hr]
    exact .cons (isChunk hw hG k0_off32 (fun _ => rfl) (k0_off33_eq n) _ _ _ _) <| .cons (isChunk hw hG k0_off30 (fun _ => rfl) (k0_off31_eq n) _ _ _ _) <|
      .cons (isChunk hw hG k0_off28 (fun _ => rfl) (k0_off29_eq n) _ _ _ _) <| .cons (isChunk hw hG k0_off26 (fun _ => rfl) (k0_off27_eq n) _ _ _ _) <|
      .cons (isChunk hw hG k0_off24 (fun _ => rfl) (k0_off25_eq n) _ _ _ _) <| .cons (isChunk hw hG k0_off22 (fun _ => rfl) (k0_off23_eq n) _ _ _ _) <|
      .cons (isChunk hw hG k0_off20 (fun _ => rfl) (k0_off21_eq n) _ _ _ _) <| .cons (isChunk hw hG k0_off18 (fun _ => rfl) (k0_off19_eq n) _ _ _ _) <|
      .cons (isChunk hw hG k0_off16 (fun _ => rfl) (k0_off17_eq n) _ _ _ _) <| .cons (isChunk hw hG k0_off14 (fun _ => rfl) (k0_off15_eq n) _ _ _ _) <|
      .cons (isChunk hw hG k0_off12 (fun _ => rfl) (k0_off13_eq n) _ _ _ _) <| .cons (isChunk hw hG k0_off10 (fun _ => rfl) (k0_off11_eq n) _ _ _ _) <|
      .cons (isChunk hw hG k0_off8 (fun _ => rfl) (k0_off9_eq n) _ _ _ _) <| .cons (isChunk hw hG k0_off6 (fun _ => rfl) (k0_off7_eq n) _ _ _ _) .nil
  isplitl [HS HI HO]
  · isplitl [HS]; · iexact HS
    isplitl [HI]; · iexact HI
    icases HO with ⟨%f, HO⟩
    iexists f; isplitr
    swap; · iexact HO
    ipureintro; intro p hp; exact absurd hp (Nat.not_lt_zero _)
  iintro %acc ⟨HS, HI, ⟨%f, %hf, HO⟩⟩
  isplitl [HS]; · iexact HS
  isplitl [HI]; · iexact HI
  have e : f = half Y (h := 0) (by decide) W := funext fun p => hf p (p 0).isLt
  rw [e]; iexact HO

end Cert.Proof.Shift

end
-- ==== Proof.Rows1.lean ====
/-
  The inner loop of the lower half image, after the pattern of the upper half's.
-/
module

public import proofs.«01_k».proof.Proof.Rows

@[expose] public section

noncomputable section

namespace Cert.Proof.Shift

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S8x96x224x224 EltTy.f32)
local notation "yV" => (Memref.whole Cert.KernelIdeal.main_arg2_scv : Memref Cert.KernelIdeal.sig Kind.scVector Space.hbm Cert.KernelIdeal.S224 EltTy.f32)
local notation "oV" => (Memref.whole Cert.KernelIdeal.main_v0_scv : Memref Cert.KernelIdeal.sig Kind.scVector Space.hbm Cert.KernelIdeal.S8x96x224x224 EltTy.f32)
local notation "bY" => (Memref.whole Cert.KernelIdeal.cc0_scratch0 : Memref Cert.KernelIdeal.sig Kind.scVector Space.vmem Cert.KernelIdeal.S224 EltTy.f32)
local notation "bT" => (Memref.whole Cert.KernelIdeal.cc0_scratch1 : Memref Cert.KernelIdeal.sig Kind.scVector Space.vmem Cert.KernelIdeal.S224 EltTy.i32)
local notation "bS" => (Memref.whole Cert.KernelIdeal.cc0_scratch2 : Memref Cert.KernelIdeal.sig Kind.scVector Space.smem Cert.KernelIdeal.S224 EltTy.i32)
local notation "bI0" => (Memref.whole Cert.KernelIdeal.cc0_scratch3 : Memref Cert.KernelIdeal.sig Kind.scVector Space.vmem Cert.KernelIdeal.S120x224 EltTy.f32)
local notation "bI1" => (Memref.whole Cert.KernelIdeal.cc0_scratch4 : Memref Cert.KernelIdeal.sig Kind.scVector Space.vmem Cert.KernelIdeal.S120x224 EltTy.f32)
local notation "bO0" => (Memref.whole Cert.KernelIdeal.cc0_scratch5 : Memref Cert.KernelIdeal.sig Kind.scVector Space.vmem Cert.KernelIdeal.S112x224 EltTy.f32)
local notation "bO1" => (Memref.whole Cert.KernelIdeal.cc0_scratch6 : Memref Cert.KernelIdeal.sig Kind.scVector Space.vmem Cert.KernelIdeal.S112x224 EltTy.f32)

variable (d : Dev nD) (L : grid0.Coords)

set_option maxHeartbeats 4000000 in
theorem rows1 (Y : S224.Idx → F .f32) (W : S120x224.Idx → F .f32) (k : Fin k0_t1_loop.trips) (a16 v : BitVec 32) :
    iprop(((bS).view.loc (V d (cV L) (jV L)) ↦{fullShare} (tab Y : Buf (Elt F) ((bS).view.loc (V d (cV L) (jV L)))))
        ∗ ((bI1).view.loc (V d (cV L) (jV L)) ↦{fullShare} (W : Buf (Elt F) ((bI1).view.loc (V d (cV L) (jV L)))))
        ∗ (∃ f, (bO1).view.loc (V d (cV L) (jV L)) ↦{fullShare} f))
      ⊢ (wp frame (wpE (defs₀ (F := F)) 𝒱₀ (V d (cV L) (jV L)) none) Set.univ
          (Scf.Loop.for k0_t3_loop k0_t3_ok ⟨⟩ (k0_t3_body L xV (Memref.isWhole_whole _) yV (Memref.isWhole_whole _) oV (Memref.isWhole_whole _)
            bY (Memref.isWhole_whole _) bT (Memref.isWhole_whole _) bS (Memref.isWhole_whole _) bI0 (Memref.isWhole_whole _) bI1 (Memref.isWhole_whole _)
            bO0 (Memref.isWhole_whole _) bO1 (Memref.isWhole_whole _) cc0_scratch7 cc0_scratch8 cc0_scratch9 cc0_scratch10 cc0_scoped0 k a16 v))
          fun _ => iprop(((bS).view.loc (V d (cV L) (jV L)) ↦{fullShare} (tab Y : Buf (Elt F) ((bS).view.loc (V d (cV L) (jV L)))))
            ∗ ((bI1).view.loc (V d (cV L) (jV L)) ↦{fullShare} (W : Buf (Elt F) ((bI1).view.loc (V d (cV L) (jV L)))))
            ∗ ((bO1).view.loc (V d (cV L) (jV L)) ↦{fullShare} (half Y (h := 1) (by decide) W : Buf (Elt F) ((bO1).view.loc (V d (cV L) (jV L))))) : sProp 𝕄)) := by
  iintro ⟨HS, HI, HO⟩
  sl_for (fun n (_ : PUnit) => iprop(((bS).view.loc (V d (cV L) (jV L)) ↦{fullShare} (tab Y : Buf (Elt F) ((bS).view.loc (V d (cV L) (jV L)))))
        ∗ ((bI1).view.loc (V d (cV L) (jV L)) ↦{fullShare} (W : Buf (Elt F) ((bI1).view.loc (V d (cV L) (jV L)))))
        ∗ (∃ f, ⌜RowsTo (half Y (h := 1) (by decide) W) n ((bO1).view.read (Elt F) f)⌝ ∗ (bO1).view.loc (V d (cV L) (jV L)) ↦{fullShare} f) : sProp 𝕄)) $$ [HS HI HO]
  · intro n acc
    iintro ⟨HS, HI, ⟨%f, %hf, HO⟩⟩
    have hle : ∀ (r : LoadRect S224) i, (View.readAt (Elt F) (bS).view r (tab Y) i : BitVec 32).toNat ≤ 119 := fun r i => tab_le Y (r.idx i)
    sl_respell [k0_t3_body]
    sl_exec (disch := (refine chk2_of_le ?_; sl_unfold_run_names; exact hle _ _))
    rw [wp_ret]; imodintro
    isplitl [HS]; · iexact HS
    isplitl [HI]; · iexact HI
    iexists _; isplitr
    swap; · iexact HO
    ipureintro
    have hn : n.val < 112 := n.isLt
    refine RowsTo.step (bO1).view hf ?_
    have hr : rows1.sl.r Y n = tab Y (ix1 ⟨112 + n.val, by omega⟩) := by
      sl_unfold_run_names
      show tab Y _ = _
      congr 1
      funext a
      refine Fin.ext ?_
      match a with
      | 0 => show k0_off38 n 0 + 1 * 0 = 112 + n.val; rw [k0_off38_eq]; show n.val + 112 + 1 * 0 = 112 + n.val; omega
    have hw : (rows1.sl.r Y n).toNat < 120 := hr ▸ Nat.lt_succ_of_le (tab_le _ _)
    have hG : ∀ y : S112x224.Idx, (y 0).val = n.val → half Y (h := 1) (by decide) W y = W (ix2 ⟨(rows1.sl.r Y n).toNat, hw⟩ (y 1)) := by
      intro y hy
      unfold half
      simp only [hy, Nat.mul_one, hr]
    exact .cons (isChunk hw hG k0_off65 (fun _ => rfl) (k0_off66_eq n) _ _ _ _) <| .cons (isChunk hw hG k0_off63 (fun _ => rfl) (k0_off64_eq n) _ _ _ _) <|
      .cons (isChunk hw hG k0_off61 (fun _ => rfl) (k0_off62_eq n) _ _ _ _) <| .cons (isChunk hw hG k0_off59 (fun _ => rfl) (k0_off60_eq n) _ _ _ _) <|
      .cons (isChunk hw hG k0_off57 (fun _ => rfl) (k0_off58_eq n) _ _ _ _) <| .cons (isChunk hw hG k0_off55 (fun _ => rfl) (k0_off56_eq n) _ _ _ _) <|
      .cons (isChunk hw hG k0_off53 (fun _ => rfl) (k0_off54_eq n) _ _ _ _) <| .cons (isChunk hw hG k0_off51 (fun _ => rfl) (k0_off52_eq n) _ _ _ _) <|
      .cons (isChunk hw hG k0_off49 (fun _ => rfl) (k0_off50_eq n) _ _ _ _) <| .cons (isChunk hw hG k0_off47 (fun _ => rfl) (k0_off48_eq n) _ _ _ _) <|
      .cons (isChunk hw hG k0_off45 (fun _ => rfl) (k0_off46_eq n) _ _ _ _) <| .cons (isChunk hw hG k0_off43 (fun _ => rfl) (k0_off44_eq n) _ _ _ _) <|
      .cons (isChunk hw hG k0_off41 (fun _ => rfl) (k0_off42_eq n) _ _ _ _) <| .cons (isChunk hw hG k0_off39 (fun _ => rfl) (k0_off40_eq n) _ _ _ _) .nil
  isplitl [HS HI HO]
  · isplitl [HS]; · iexact HS
    isplitl [HI]; · iexact HI
    icases HO with ⟨%f, HO⟩
    iexists f; isplitr
    swap; · iexact HO
    ipureintro; intro p hp; exact absurd hp (Nat.not_lt_zero _)
  iintro %acc ⟨HS, HI, ⟨%f, %hf, HO⟩⟩
  isplitl [HS]; · iexact HS
  isplitl [HI]; · iexact HI
  have e : f = half Y (h := 1) (by decide) W := funext fun p => hf p (p 0).isLt
  rw [e]; iexact HO

end Cert.Proof.Shift

end
-- ==== Proof.Trip.lean ====
/-
  One trip of the outer loop, part by part, and the whole loop.
-/
module

public import proofs.«01_k».proof.Proof.Gen.KernelIdeal.Skeleton
public import proofs.«01_k».proof.Proof.Steps
public import proofs.«01_k».proof.Proof.Rows1

@[expose] public section

noncomputable section

namespace Cert.Proof.Shift

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S8x96x224x224 EltTy.f32)
local notation "yV" => (Memref.whole Cert.KernelIdeal.main_arg2_scv : Memref Cert.KernelIdeal.sig Kind.scVector Space.hbm Cert.KernelIdeal.S224 EltTy.f32)
local notation "oV" => (Memref.whole Cert.KernelIdeal.main_v0_scv : Memref Cert.KernelIdeal.sig Kind.scVector Space.hbm Cert.KernelIdeal.S8x96x224x224 EltTy.f32)
local notation "bY" => (Memref.whole Cert.KernelIdeal.cc0_scratch0 : Memref Cert.KernelIdeal.sig Kind.scVector Space.vmem Cert.KernelIdeal.S224 EltTy.f32)
local notation "bT" => (Memref.whole Cert.KernelIdeal.cc0_scratch1 : Memref Cert.KernelIdeal.sig Kind.scVector Space.vmem Cert.KernelIdeal.S224 EltTy.i32)
local notation "bS" => (Memref.whole Cert.KernelIdeal.cc0_scratch2 : Memref Cert.KernelIdeal.sig Kind.scVector Space.smem Cert.KernelIdeal.S224 EltTy.i32)
local notation "bI0" => (Memref.whole Cert.KernelIdeal.cc0_scratch3 : Memref Cert.KernelIdeal.sig Kind.scVector Space.vmem Cert.KernelIdeal.S120x224 EltTy.f32)
local notation "bI1" => (Memref.whole Cert.KernelIdeal.cc0_scratch4 : Memref Cert.KernelIdeal.sig Kind.scVector Space.vmem Cert.KernelIdeal.S120x224 EltTy.f32)
local notation "bO0" => (Memref.whole Cert.KernelIdeal.cc0_scratch5 : Memref Cert.KernelIdeal.sig Kind.scVector Space.vmem Cert.KernelIdeal.S112x224 EltTy.f32)
local notation "bO1" => (Memref.whole Cert.KernelIdeal.cc0_scratch6 : Memref Cert.KernelIdeal.sig Kind.scVector Space.vmem Cert.KernelIdeal.S112x224 EltTy.f32)

variable (d : Dev nD) (L : grid0.Coords)

variable (X : S8x96x224x224.Idx → F .f32) (Y : S224.Idx → F .f32) (f₀ : S8x96x224x224.Idx → F .f32) (q : PosShare TreeShare) (O : CellTallies nD τ sig (HIx 1))

theorem trips_eq (k : Fin k0_t1_loop.trips) : k.val < 24 := lt_of_lt_of_eq k.isLt (by decide +kernel)

theorem part5 (k : Fin k0_t1_loop.trips) (v c0 c1 : BitVec 32) :
    iprop(inSt d L X q bI0 cc0_scratch7.sem (h := 0) (by decide) k.val ∗ outSt d L X Y bO0 cc0_scratch9.sem 0 k.val ∗ pcs d L X Y f₀ 0 k.val
        ∗ MayWaits (thr d L) (default : HIx 1) O ∗ owing d L O)
      ⊢ wp frame (wpE (defs₀ (F := F)) 𝒱₀ (thr d L) none) Set.univ
          (k0_part5 L xV (Memref.isWhole_whole _) yV (Memref.isWhole_whole _) oV (Memref.isWhole_whole _)
            bY (Memref.isWhole_whole _) bT (Memref.isWhole_whole _) bS (Memref.isWhole_whole _) bI0 (Memref.isWhole_whole _) bI1 (Memref.isWhole_whole _)
            bO0 (Memref.isWhole_whole _) bO1 (Memref.isWhole_whole _) cc0_scratch7 cc0_scratch8 cc0_scratch9 cc0_scratch10 cc0_scoped0 v c0 c1 k)
          fun _ => iprop((holds d L bI0 (win X (img_lt L (trips_eq k)) (h := 0) (by decide)) ∗ reads d L q X ∗ semVal (thr d L, .dma cc0_scratch7.sem) 0)
            ∗ (held d L bO0 ∗ semVal (thr d L, .dma cc0_scratch9.sem) 0 ∗ mid d L X Y f₀ 0 k.val) ∗ owing d L O) := by
  rw [k0_part5_eq_skeleton]
  unfold k0_part5_skel
  iintro ⟨Hi, Ho, Hp, #Hmw, HO⟩
  iapply (seq d L (stepWaitIn d L X q O (h := 0) (trips_eq k))) $$ [Hi HO]
  · isplitl [Hi]; · iexact Hi
    isplitr; · iexact Hmw
    iexact HO
  iintro %_ ⟨Hb, Hx, Hs, HO⟩
  iapply (stepWaitOut d L X Y f₀ O (trips_eq k) (cond1_iff k)) $$ [Ho Hp HO]
  · isplitl [Ho]; · iexact Ho
    isplitl [Hp]; · iexact Hp
    isplitr; · iexact Hmw
    iexact HO
  iintro ⟨Hbo, Hso, Hm, HO⟩
  rw [wp_pure]; imodintro
  isplitl [Hb Hx Hs]
  · isplitl [Hb]; · iexact Hb
    isplitl [Hx]; · iexact Hx
    iexact Hs
  isplitr [HO]
  · isplitl [Hbo]; · iexact Hbo
    isplitl [Hso]; · iexact Hso
    iexact Hm
  iexact HO

/-- The table in scalar memory. -/
abbrev table : sProp 𝕄 := iprop((bS).view.loc (thr d L) ↦{fullShare} (tab Y : Buf (Elt F) ((bS).view.loc (thr d L))))

theorem part6 (k : Fin k0_t1_loop.trips) (a16 v c : BitVec 32) :
    iprop(table d L Y ∗ (holds d L bI0 (win X (img_lt L (trips_eq k)) (h := 0) (by decide)) ∗ reads d L q X ∗ semVal (thr d L, .dma cc0_scratch7.sem) 0)
        ∗ (held d L bO0 ∗ semVal (thr d L, .dma cc0_scratch9.sem) 0 ∗ mid d L X Y f₀ 0 k.val))
      ⊢ wp frame (wpE (defs₀ (F := F)) 𝒱₀ (thr d L) none) Set.univ
          (k0_part6 L xV (Memref.isWhole_whole _) yV (Memref.isWhole_whole _) oV (Memref.isWhole_whole _)
            bY (Memref.isWhole_whole _) bT (Memref.isWhole_whole _) bS (Memref.isWhole_whole _) bI0 (Memref.isWhole_whole _) bI1 (Memref.isWhole_whole _)
            bO0 (Memref.isWhole_whole _) bO1 (Memref.isWhole_whole _) cc0_scratch7 cc0_scratch8 cc0_scratch9 cc0_scratch10 cc0_scoped0 k a16 v c)
          fun _ => iprop(table d L Y ∗ inSt d L X q bI0 cc0_scratch7.sem (h := 0) (by decide) (k.val + 1) ∗ outSt d L X Y bO0 cc0_scratch9.sem 0 (k.val + 1)
            ∗ pcs d L X Y f₀ 0 (k.val + 1)) := by
  rw [k0_part6_eq_skeleton]
  unfold k0_part6_skel
  iintro ⟨Ht, ⟨⟨%f, %hf, Hb⟩, Hx, Hs⟩, ⟨Hbo, Hso, Hm⟩⟩
  obtain rfl : f = win X (img_lt L (trips_eq k)) (h := 0) (by decide) := hf
  iapply (seq d L (rows0 d L Y (win X (img_lt L (trips_eq k)) (h := 0) (by decide)) k a16 v c)) $$ [Ht Hb Hbo]
  · isplitl [Ht]; · iexact Ht
    isplitl [Hb]; · iexact Hb
    iexact Hbo
  iintro %_ ⟨Ht, Hb, Hbo⟩
  iapply (seq d L (stepIssueOut d L X Y f₀ (View.set_whole _) (h := 0) (by decide) (trips_eq k) (off34_eq L k))) $$ [Hbo Hm Hso]
  · isplitl [Hbo]
    · iexists _; isplitr
      swap; · iexact Hbo
      ipureintro; rfl
    isplitl [Hm]; · iexact Hm
    iexact Hso
  iintro %_ ⟨Ho, Hp⟩
  iapply (stepIssueIn d L X q (h := 0) (by decide) (cond2_iff k) (off35_eq L k)) $$ [Hb Hx Hs]
  · isplitl [Hb]; · iexists _; iexact Hb
    isplitl [Hx]; · iexact Hx
    iexact Hs
  iintro Hi
  rw [wp_pure]; imodintro
  isplitl [Ht]; · iexact Ht
  isplitl [Hi]; · iexact Hi
  isplitl [Ho]; · iexact Ho
  iexact Hp

theorem part7 (k : Fin k0_t1_loop.trips) (a16 v : BitVec 32) :
    iprop(table d L Y ∗ inSt d L X q bI1 cc0_scratch8.sem (h := 1) (by decide) k.val ∗ outSt d L X Y bO1 cc0_scratch10.sem 1 k.val ∗ pcs d L X Y f₀ 1 k.val
        ∗ MayWaits (thr d L) (default : HIx 1) O ∗ owing d L O)
      ⊢ wp frame (wpE (defs₀ (F := F)) 𝒱₀ (thr d L) none) Set.univ
          (k0_part7 L xV (Memref.isWhole_whole _) yV (Memref.isWhole_whole _) oV (Memref.isWhole_whole _)
            bY (Memref.isWhole_whole _) bT (Memref.isWhole_whole _) bS (Memref.isWhole_whole _) bI0 (Memref.isWhole_whole _) bI1 (Memref.isWhole_whole _)
            bO0 (Memref.isWhole_whole _) bO1 (Memref.isWhole_whole _) cc0_scratch7 cc0_scratch8 cc0_scratch9 cc0_scratch10 cc0_scoped0 k a16 v)
          fun _ => iprop(table d L Y ∗ (held d L bI1 ∗ reads d L q X ∗ semVal (thr d L, .dma cc0_scratch8.sem) 0)
            ∗ (holds d L bO1 (half Y (h := 1) (by decide) (win X (img_lt L (trips_eq k)) (h := 1) (by decide))) ∗ mid d L X Y f₀ 1 k.val
              ∗ semVal (thr d L, .dma cc0_scratch10.sem) 0) ∗ owing d L O) := by
  rw [k0_part7_eq_skeleton]
  unfold k0_part7_skel
  iintro ⟨Ht, Hi, Ho, Hp, #Hmw, HO⟩
  iapply (seq d L (stepWaitIn d L X q O (h := 1) (trips_eq k))) $$ [Hi HO]
  · isplitl [Hi]; · iexact Hi
    isplitr; · iexact Hmw
    iexact HO
  iintro %_ ⟨⟨%f, %hf, Hb⟩, Hx, Hs, HO⟩
  obtain rfl : f = win X (img_lt L (trips_eq k)) (h := 1) (by decide) := hf
  iapply (stepWaitOut d L X Y f₀ O (trips_eq k) (cond3_iff k)) $$ [Ho Hp HO]
  · isplitl [Ho]; · iexact Ho
    isplitl [Hp]; · iexact Hp
    isplitr; · iexact Hmw
    iexact HO
  iintro ⟨Hbo, Hso, Hm, HO⟩
  iapply (seq d L (rows1 d L Y (win X (img_lt L (trips_eq k)) (h := 1) (by decide)) k a16 v)) $$ [Ht Hb Hbo]
  · isplitl [Ht]; · iexact Ht
    isplitl [Hb]; · iexact Hb
    iexact Hbo
  iintro %_ ⟨Ht, Hb, Hbo⟩
  rw [wp_pure]; imodintro
  isplitl [Ht]; · iexact Ht
  isplitl [Hb Hx Hs]
  · isplitl [Hb]; · iexists _; iexact Hb
    isplitl [Hx]; · iexact Hx
    iexact Hs
  isplitr [HO]
  · isplitl [Hbo]
    · iexists _; isplitr
      swap; · iexact Hbo
      ipureintro; rfl
    isplitl [Hm]; · iexact Hm
    iexact Hso
  iexact HO

/-- What a task holds entering trip `k` of the outer loop. -/
abbrev atTrip (q₀ q₁ : PosShare TreeShare) (k : ℕ) : sProp 𝕄 :=
  iprop(table d L Y
    ∗ (inSt d L X q₀ bI0 cc0_scratch7.sem (h := 0) (by decide) k ∗ outSt d L X Y bO0 cc0_scratch9.sem 0 k ∗ pcs d L X Y f₀ 0 k)
    ∗ (inSt d L X q₁ bI1 cc0_scratch8.sem (h := 1) (by decide) k ∗ outSt d L X Y bO1 cc0_scratch10.sem 1 k ∗ pcs d L X Y f₀ 1 k)
    ∗ MayWaits (thr d L) (default : HIx 1) O ∗ owing d L O)

theorem part8 (q₀ q₁ : PosShare TreeShare) (k : Fin k0_t1_loop.trips) (v c0 c1 : BitVec 32) :
    atTrip d L X Y f₀ O q₀ q₁ k.val
      ⊢ wp frame (wpE (defs₀ (F := F)) 𝒱₀ (thr d L) none) Set.univ
          (k0_part8 L xV (Memref.isWhole_whole _) yV (Memref.isWhole_whole _) oV (Memref.isWhole_whole _)
            bY (Memref.isWhole_whole _) bT (Memref.isWhole_whole _) bS (Memref.isWhole_whole _) bI0 (Memref.isWhole_whole _) bI1 (Memref.isWhole_whole _)
            bO0 (Memref.isWhole_whole _) bO1 (Memref.isWhole_whole _) cc0_scratch7 cc0_scratch8 cc0_scratch9 cc0_scratch10 cc0_scoped0 v c0 c1 k)
          fun _ => iprop(table d L Y
            ∗ (inSt d L X q₀ bI0 cc0_scratch7.sem (h := 0) (by decide) (k.val + 1) ∗ outSt d L X Y bO0 cc0_scratch9.sem 0 (k.val + 1) ∗ pcs d L X Y f₀ 0 (k.val + 1))
            ∗ (held d L bI1 ∗ reads d L q₁ X ∗ semVal (thr d L, .dma cc0_scratch8.sem) 0)
            ∗ (outSt d L X Y bO1 cc0_scratch10.sem 1 (k.val + 1) ∗ pcs d L X Y f₀ 1 (k.val + 1)) ∗ owing d L O) := by
  rw [k0_part8_eq_skeleton]
  unfold k0_part8_skel
  iintro ⟨Ht, ⟨Hi, Ho, Hp⟩, ⟨Hi', Ho', Hp'⟩, #Hmw, HO⟩
  iapply (seq d L (part5 d L X Y f₀ q₀ O k v c0 c1)) $$ [Hi Ho Hp HO]
  · isplitl [Hi]; · iexact Hi
    isplitl [Ho]; · iexact Ho
    isplitl [Hp]; · iexact Hp
    isplitr; · iexact Hmw
    iexact HO
  iintro %r ⟨Hi, Ho, HO⟩
  iapply (seq d L (part6 d L X Y f₀ q₀ k r.1 r.2.1 r.2.2)) $$ [Ht Hi Ho]
  · isplitl [Ht]; · iexact Ht
    isplitl [Hi]; · iexact Hi
    iexact Ho
  iintro %_ ⟨Ht, Hz⟩
  iapply (seq d L (part7 d L X Y f₀ q₁ O k r.1 r.2.1)) $$ [Ht Hi' Ho' Hp' HO]
  · isplitl [Ht]; · iexact Ht
    isplitl [Hi']; · iexact Hi'
    isplitl [Ho']; · iexact Ho'
    isplitl [Hp']; · iexact Hp'
    isplitr; · iexact Hmw
    iexact HO
  iintro %_ ⟨Ht, Hi, Ho, HO⟩
  iapply (seq d L (stepIssueOut d L X Y f₀ (View.set_whole _) (h := 1) _ (trips_eq k) (off67_eq L k))) $$ Ho
  iintro %_ Ho
  rw [wp_pure]; imodintro
  isplitl [Ht]; · iexact Ht
  isplitl [Hz]; · iexact Hz
  isplitl [Hi]; · iexact Hi
  isplitl [Ho]; · iexact Ho
  iexact HO

theorem trip (q₀ q₁ : PosShare TreeShare) (k : Fin k0_t1_loop.trips) (v acc : BitVec 32) :
    atTrip d L X Y f₀ O q₀ q₁ k.val
      ⊢ wp frame (wpE (defs₀ (F := F)) 𝒱₀ (thr d L) none) Set.univ
          (k0_t1_body L xV (Memref.isWhole_whole _) yV (Memref.isWhole_whole _) oV (Memref.isWhole_whole _)
            bY (Memref.isWhole_whole _) bT (Memref.isWhole_whole _) bS (Memref.isWhole_whole _) bI0 (Memref.isWhole_whole _) bI1 (Memref.isWhole_whole _)
            bO0 (Memref.isWhole_whole _) bO1 (Memref.isWhole_whole _) cc0_scratch7 cc0_scratch8 cc0_scratch9 cc0_scratch10 cc0_scoped0 v k acc)
          fun _ => atTrip d L X Y f₀ O q₀ q₁ (k.val + 1) := by
  unfold k0_t1_body
  iintro ⟨Ht, Hz, Hz', #Hmw, HO⟩
  iapply (seq d L (part8 d L X Y f₀ O q₀ q₁ k v 0#32 1#32)) $$ [Ht Hz Hz' HO]
  · isplitl [Ht]; · iexact Ht
    isplitl [Hz]; · iexact Hz
    isplitl [Hz']; · iexact Hz'
    isplitr; · iexact Hmw
    iexact HO
  iintro %_ ⟨Ht, Hz, Hi, Ho, HO⟩
  iapply (stepIssueIn d L X q₁ (h := 1) (by decide) (cond4_iff k) (off68_eq L k)) $$ Hi
  iintro Hi
  rw [wp_pure]; imodintro
  isplitl [Ht]; · iexact Ht
  isplitl [Hz]; · iexact Hz
  isplitl [Hi Ho]
  · isplitl [Hi]; · iexact Hi
    iexact Ho
  isplitr; · iexact Hmw
  iexact HO

theorem trips (q₀ q₁ : PosShare TreeShare) (v : BitVec 32) :
    atTrip d L X Y f₀ O q₀ q₁ 0
      ⊢ wp frame (wpE (defs₀ (F := F)) 𝒱₀ (thr d L) none) Set.univ
          (Scf.Loop.for k0_t1_loop k0_t1_ok 0#32 (k0_t1_body L xV (Memref.isWhole_whole _) yV (Memref.isWhole_whole _) oV (Memref.isWhole_whole _)
            bY (Memref.isWhole_whole _) bT (Memref.isWhole_whole _) bS (Memref.isWhole_whole _) bI0 (Memref.isWhole_whole _) bI1 (Memref.isWhole_whole _)
            bO0 (Memref.isWhole_whole _) bO1 (Memref.isWhole_whole _) cc0_scratch7 cc0_scratch8 cc0_scratch9 cc0_scratch10 cc0_scoped0 v))
          fun _ => atTrip d L X Y f₀ O q₀ q₁ 24 := by
  iintro H
  sl_for (fun n (_ : BitVec 32) => atTrip d L X Y f₀ O q₀ q₁ n) $$ [H]
  · intro n acc
    exact trip d L X Y f₀ O q₀ q₁ n v acc
  · isplitl [H]; · iexact H
    rw [show Scf.trips k0_t1_loop.lb k0_t1_loop.ub k0_t1_loop.st = 24 by decide +kernel]
    iintro %_ H
    iexact H

end Cert.Proof.Shift

end
-- ==== Proof.Table.lean ====
/-
  The table of rows, as the kernel writes it: sixteen words at a time into a vector buffer, then word by word into the scalar
  memory the row loops read.
-/
module

public import proofs.«01_k».proof.Proof.Places

@[expose] public section

noncomputable section

namespace Cert.Proof.Shift

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers

variable {F : FTy → Type} [FloatOps F]

/-- A list of stores that fills the first `n` words of a table of 224 words with the table's own values. -/
def Fills (Y : S224.Idx → F .f32) (n : ℕ) (L : List (View.Piece (Elt F) S224 .i32)) : Prop :=
  (∀ p ∈ L, ∀ x, p.2 x = tab Y (p.1.emb x)) ∧ ∀ y : S224.Idx, (y 0).val < n → ∃ p ∈ L, y ∈ p.1.set

theorem Fills.nil (Y : S224.Idx → F .f32) : Fills Y 0 [] :=
  ⟨fun _ h => absurd h List.not_mem_nil, fun _ h => absurd h (Nat.not_lt_zero _)⟩

/-- One more store, from word `n` on. -/
theorem Fills.store {Y : S224.Idx → F .f32} {n n' : ℕ} {off size : Fin 1 → ℕ} {inb : ∀ a, off a + size a ≤ S224.size a}
    {v : (Rect.unit (s := S224) off size inb).shape.Idx → BitVec 32} {L : List (View.Piece (Elt F) S224 .i32)}
    (hv : ∀ x, v x = tab Y ((Rect.unit (s := S224) off size inb).emb x)) (ho : off 0 = n) (hn : n + size 0 = n') (h : Fills Y n L) :
    Fills Y n' (⟨Rect.unit (s := S224) off size inb, v⟩ :: L) := by
  obtain ⟨h1, h2⟩ := h
  refine ⟨fun p hp => ?_, fun y hy => ?_⟩
  · rcases List.mem_cons.mp hp with rfl | hp
    · exact hv
    · exact h1 p hp
  · by_cases e : (y 0).val < n
    · obtain ⟨p, hp, hm⟩ := h2 y e
      exact ⟨p, List.mem_cons_of_mem _ hp, hm⟩
    · refine ⟨_, List.mem_cons_self, ?_⟩
      rw [Rect.mem_set_unit]
      intro a
      obtain rfl : a = 0 := Subsingleton.elim _ _
      rw [ho]; omega

/-- What a table filled to the end reads. -/
theorem Fills.read {sp : Space} {Y : S224.Idx → F .f32} {L : List (View.Piece (Elt F) S224 .i32)} (h : Fills Y 224 L)
    (v : View sig .scVector sp S224 .i32) (f : v.ty.Contents (Elt F)) : v.read (Elt F) (v.writes (Elt F) f L) = tab Y :=
  funext fun y => View.read_writes_apply_of_pieces v f (tab Y) L h.1 y (h.2 y (y 0).isLt)

/-- Sixteen words computed from row `o` on are the table's. -/
theorem sixteen {Y : S224.Idx → F .f32} {v : S16.Idx → F .f32} (o s : ℕ) {inb : ∀ a, (![o] : Fin 1 → ℕ) a + S16.size a ≤ S224.size a}
    (hs : ∀ j, j < 16 → start (o + j) = s) (hv : ∀ x, v x = Y ((Rect.unit (s := S224) ![o] S16.size inb).emb x)) (x : S16.Idx) :
    rowWord (IntOp.addi (iota .scVector S16 32 [0] iota_S16_d0_w32_scVector x) (BitVec.ofNat 32 o)) (BitVec.ofNat 32 s) (v x)
      = tab Y ((Rect.unit (s := S224) ![o] S16.size inb).emb x) := by
  have hx : (x 0).val < 16 := (x 0).isLt
  have e : (((Rect.unit (s := S224) ![o] S16.size inb).emb x) 0).val = o + (x 0).val := by
    rw [Rect.emb_apply]; show o + 1 * (x 0).val = _; omega
  unfold tab
  rw [hv x, e, hs _ hx]
  congr 1
  show BitVec.ofNat 32 (0 * 16 + (x 0).val) + BitVec.ofNat 32 o = _
  rw [← BitVec.ofNat_add, Nat.zero_mul, Nat.zero_add, Nat.add_comm]

/-- Lane `l` of sixteen words loaded from word `b` of the filled table is word `b + l`. -/
theorem lane {sp : Space} {Y : S224.Idx → F .f32} {L : List (View.Piece (Elt F) S224 .i32)} (hL : Fills Y 224 L)
    (v : View sig .scVector sp S224 .i32) [∀ e, Nonempty (Elt F e)] {b l o : ℕ} (ho : b + l = o) {inb : ∀ a, (![b] : Fin 1 → ℕ) a + S16.size a ≤ S224.size a} {h h'}
    {inb' : ∀ a, (![o] : Fin 1 → ℕ) a + S1.size a ≤ S224.size a} (x) :
    (extractAt ![0] (extractStridedSlice S1 ![l] (v.readCov L (Rect.unit (s := S224) ![b] S16.size inb).toLoadRect) h) h' : BitVec 32)
      = tab Y ((Rect.unit (s := S224) ![o] S1.size inb').emb x) := by
  have hx : (x 0).val < 1 := (x 0).isLt
  refine (congrFun (hL.read v v.junk) _).trans (congrArg (tab Y) (funext fun a => Fin.ext ?_))
  obtain rfl : a = 0 := Subsingleton.elim _ _
  rw [Rect.emb_apply]
  show b + 1 * (l + 0) = o + 1 * (x 0).val
  omega

end Cert.Proof.Shift

end
-- ==== Proof.Tile.lean ====
/-
  One task from its first statement to its last: the row table, the first two copies, the trips, the last two waits.
-/
module

public import proofs.«01_k».proof.Proof.Trip
public import proofs.«01_k».proof.Proof.Table

@[expose] public section

noncomputable section

namespace Cert.Proof.Shift

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S8x96x224x224 EltTy.f32)
local notation "yV" => (Memref.whole Cert.KernelIdeal.main_arg2_scv : Memref Cert.KernelIdeal.sig Kind.scVector Space.hbm Cert.KernelIdeal.S224 EltTy.f32)
local notation "oV" => (Memref.whole Cert.KernelIdeal.main_v0_scv : Memref Cert.KernelIdeal.sig Kind.scVector Space.hbm Cert.KernelIdeal.S8x96x224x224 EltTy.f32)
local notation "bY" => (Memref.whole Cert.KernelIdeal.cc0_scratch0 : Memref Cert.KernelIdeal.sig Kind.scVector Space.vmem Cert.KernelIdeal.S224 EltTy.f32)
local notation "bT" => (Memref.whole Cert.KernelIdeal.cc0_scratch1 : Memref Cert.KernelIdeal.sig Kind.scVector Space.vmem Cert.KernelIdeal.S224 EltTy.i32)
local notation "bS" => (Memref.whole Cert.KernelIdeal.cc0_scratch2 : Memref Cert.KernelIdeal.sig Kind.scVector Space.smem Cert.KernelIdeal.S224 EltTy.i32)
local notation "bI0" => (Memref.whole Cert.KernelIdeal.cc0_scratch3 : Memref Cert.KernelIdeal.sig Kind.scVector Space.vmem Cert.KernelIdeal.S120x224 EltTy.f32)
local notation "bI1" => (Memref.whole Cert.KernelIdeal.cc0_scratch4 : Memref Cert.KernelIdeal.sig Kind.scVector Space.vmem Cert.KernelIdeal.S120x224 EltTy.f32)
local notation "bO0" => (Memref.whole Cert.KernelIdeal.cc0_scratch5 : Memref Cert.KernelIdeal.sig Kind.scVector Space.vmem Cert.KernelIdeal.S112x224 EltTy.f32)
local notation "bO1" => (Memref.whole Cert.KernelIdeal.cc0_scratch6 : Memref Cert.KernelIdeal.sig Kind.scVector Space.vmem Cert.KernelIdeal.S112x224 EltTy.f32)

variable (d : Dev nD) (L : grid0.Coords)

variable (X : S8x96x224x224.Idx → F .f32) (Y : S224.Idx → F .f32) (f₀ : S8x96x224x224.Idx → F .f32) (O : CellTallies nD τ sig (HIx 1))

/-- The same as `seq` where the first step is already met. -/
theorem seqOp {B : Type} {A : Type} {e : TpuEff nD τ sig (Elt F) Λ₀ (.scVector (cV L) (jV L)) A}
    {k : A → Prog (TpuEff nD τ sig (Elt F) Λ₀ (.scVector (cV L) (jV L))) B} {Pr : sProp 𝕄} {Q : A → sProp 𝕄} {R : B → sProp 𝕄}
    (hp : Pr ⊢ wp frame (wpE (defs₀ (F := F)) 𝒱₀ (thr d L) none) Set.univ (Prog.lift e) Q) :
    Pr ⊢ iprop((∀ a, Q a -∗ wp frame (wpE (defs₀ (F := F)) 𝒱₀ (thr d L) none) Set.univ (k a) R)
      -∗ wp frame (wpE (defs₀ (F := F)) 𝒱₀ (thr d L) none) Set.univ (Prog.op e k) R) :=
  seq d L hp

/-- A half's side before its first copy, and once everything is back. -/
abbrev before (bI : Memref sig .scVector .vmem S120x224 .f32) (sI : DmaSem sig) (q : PosShare TreeShare) (bO : Memref sig .scVector .vmem S112x224 .f32)
    (sO : DmaSem sig) (h : ℕ) : sProp 𝕄 :=
  iprop((held d L bI ∗ reads d L q X ∗ semVal (thr d L, .dma sI) 0) ∗ (held d L bO ∗ semVal (thr d L, .dma sO) 0) ∗ pcs d L X Y f₀ h 0)
abbrev after (bI : Memref sig .scVector .vmem S120x224 .f32) (sI : DmaSem sig) (q : PosShare TreeShare) (bO : Memref sig .scVector .vmem S112x224 .f32)
    (sO : DmaSem sig) (h : ℕ) : sProp 𝕄 :=
  iprop((held d L bI ∗ reads d L q X ∗ semVal (thr d L, .dma sI) 0) ∗ (held d L bO ∗ semVal (thr d L, .dma sO) 0) ∗ mid d L X Y f₀ h 24)

/-- Both halves' sides before, closed. -/
def bothBefore (q₀ q₁ : PosShare TreeShare) : sProp 𝕄 :=
  iprop(before d L X Y f₀ bI0 cc0_scratch7.sem q₀ bO0 cc0_scratch9.sem 0 ∗ before d L X Y f₀ bI1 cc0_scratch8.sem q₁ bO1 cc0_scratch10.sem 1)

/-- After the last trip no window is on its way. -/
theorem inSt_last {bI : Memref sig .scVector .vmem S120x224 .f32} {sI : DmaSem sig} {q : PosShare TreeShare} {h : ℕ} {hh : h < 2} :
    inSt d L X q bI sI hh 24 ⊢ iprop(held d L bI ∗ reads d L q X ∗ semVal (thr d L, .dma sI) 0) := by
  rw [inSt, dif_neg (show ¬ 24 < 24 by decide)]

theorem part40 (q₀ q₁ : PosShare TreeShare) (v : BitVec 32) :
    iprop(table d L Y ∗ (inSt d L X q₀ bI0 cc0_scratch7.sem (h := 0) (by decide) 0 ∗ outSt d L X Y bO0 cc0_scratch9.sem 0 0 ∗ pcs d L X Y f₀ 0 0)
        ∗ before d L X Y f₀ bI1 cc0_scratch8.sem q₁ bO1 cc0_scratch10.sem 1
        ∗ MayWaits (thr d L) (default : HIx 1) O ∗ owing d L O)
      ⊢ wp frame (wpE (defs₀ (F := F)) 𝒱₀ (thr d L) none) Set.univ
          (k0_part40 L xV (Memref.isWhole_whole _) yV (Memref.isWhole_whole _) oV (Memref.isWhole_whole _)
            bY (Memref.isWhole_whole _) bT (Memref.isWhole_whole _) bS (Memref.isWhole_whole _) bI0 (Memref.isWhole_whole _) bI1 (Memref.isWhole_whole _)
            bO0 (Memref.isWhole_whole _) bO1 (Memref.isWhole_whole _) cc0_scratch7 cc0_scratch8 cc0_scratch9 cc0_scratch10 cc0_scoped0 v)
          fun _ => atTrip d L X Y f₀ O q₀ q₁ 24 := by
  rw [k0_part40_eq_skeleton]
  unfold k0_part40_skel
  iintro ⟨Ht, Hz, ⟨⟨Hb, Hx, Hs⟩, Ho, Hp⟩, #Hmw, HO⟩
  iapply (seq d L (issueIn d L (img_lt L (k := 0) (by decide)) (h := 1) (by decide) (off2_eq L) q₁ X)) $$ [Hb Hx Hs]
  · isplitl [Hx]; · iexact Hx
    isplitl [Hb]; · iexact Hb
    iexact Hs
  iintro %_ HF
  iapply (seq d L (trips d L X Y f₀ O q₀ q₁ v)) $$ [Ht Hz HF Ho Hp HO]
  · isplitl [Ht]; · iexact Ht
    isplitl [Hz]; · iexact Hz
    isplitl [HF Ho Hp]
    · isplitl [HF]
      · rw [inSt, dif_pos (show 0 < 24 by decide)]
        iexact HF
      isplitl [Ho]
      · rw [outSt]; iexact Ho
      iexact Hp
    isplitr; · iexact Hmw
    iexact HO
  iintro %_ H
  rw [wp_pure]; imodintro
  iexact H

theorem lastWait {bO : Memref sig .scVector .vmem S112x224 .f32} {sO : DmaSem sig} {h : ℕ} {off : Fin 4 → ℕ} {inb} {e1 e2} :
    iprop(outSt d L X Y bO sO h 24 ∗ pcs d L X Y f₀ h 24 ∗ MayWaits (thr d L) (default : HIx 1) O ∗ owing d L O)
      ⊢ wp frame (wpE (defs₀ (F := F)) 𝒱₀ (thr d L) none) Set.univ (Prog.lift (.waitDma2 sO bO (outM off inb) e1 e2))
          fun _ => iprop((held d L bO ∗ semVal (thr d L, .dma sO) 0) ∗ mid d L X Y f₀ h 24 ∗ owing d L O) := by
  rw [outSt]
  iintro ⟨Hst, Hp, #Hmw, HO⟩
  iapply (wp_wand_r _ _ _) $$ [Hst Hp HO]
  isplitl [Hst HO]
  · iapply (waitOut d L X Y O)
    isplitl [Hst]; · iexact Hst
    isplitr; · iexact Hmw
    iexact HO
  iintro %_ ⟨Hb, Hr, Hs, HO⟩
  isplitl [Hb Hs]
  · isplitl [Hb]; · iexact Hb
    iexact Hs
  isplitl [Hp Hr]
  · iapply (backIn d L X Y f₀ h (k := 23) (by decide))
    isplitl [Hp]; · iexact Hp
    iexact Hr
  iexact HO

theorem part41 (v v' : BitVec 32) :
    iprop(outSt d L X Y bO0 cc0_scratch9.sem 0 24 ∗ pcs d L X Y f₀ 0 24 ∗ MayWaits (thr d L) (default : HIx 1) O ∗ owing d L O)
      ⊢ wp frame (wpE (defs₀ (F := F)) 𝒱₀ (thr d L) none) Set.univ
          (k0_part41 L xV (Memref.isWhole_whole _) yV (Memref.isWhole_whole _) oV (Memref.isWhole_whole _)
            bY (Memref.isWhole_whole _) bT (Memref.isWhole_whole _) bS (Memref.isWhole_whole _) bI0 (Memref.isWhole_whole _) bI1 (Memref.isWhole_whole _)
            bO0 (Memref.isWhole_whole _) bO1 (Memref.isWhole_whole _) cc0_scratch7 cc0_scratch8 cc0_scratch9 cc0_scratch10 cc0_scoped0 v v')
          fun _ => iprop((held d L bO0 ∗ semVal (thr d L, .dma cc0_scratch9.sem) 0) ∗ mid d L X Y f₀ 0 24 ∗ owing d L O) := by
  rw [k0_part41_eq_skeleton]
  unfold k0_part41_skel
  iintro H
  iapply (seq d L (lastWait d L X Y f₀ O)) $$ H
  iintro %_ H
  rw [wp_pure]; imodintro
  iexact H

set_option maxHeartbeats 4000000 in
theorem body (q q₀ q₁ : PosShare TreeShare) (W : Waits sig (HIx 1)) :
    iprop(MayWaits (V d (cV L) (jV L)) (default : HIx 1) O
        ∗ ((yV).view.loc (V d (cV L) (jV L)) ↦{q} (Y : Buf (Elt F) ((yV).view.loc (V d (cV L) (jV L)))))
        ∗ (∃ f, (bY).view.loc (V d (cV L) (jV L)) ↦{fullShare} f)
        ∗ (∃ f, (bT).view.loc (V d (cV L) (jV L)) ↦{fullShare} f)
        ∗ (∃ f, (bS).view.loc (V d (cV L) (jV L)) ↦{fullShare} f)
        ∗ semVal (V d (cV L) (jV L), .dma cc0_scoped0.sem) 0
        ∗ owes (V d (cV L) (jV L)) O W ∗ bothBefore d L X Y f₀ q₀ q₁)
      ⊢ wp frame (wpE (defs₀ (F := F)) 𝒱₀ (V d (cV L) (jV L)) none) Set.univ
          (cc0_body L xV (Memref.isWhole_whole _) yV (Memref.isWhole_whole _) oV (Memref.isWhole_whole _)
            bY (Memref.isWhole_whole _) bT (Memref.isWhole_whole _) bS (Memref.isWhole_whole _) bI0 (Memref.isWhole_whole _) bI1 (Memref.isWhole_whole _)
            bO0 (Memref.isWhole_whole _) bO1 (Memref.isWhole_whole _) cc0_scratch7 cc0_scratch8 cc0_scratch9 cc0_scratch10 cc0_scoped0)
          fun _ => iprop(((yV).view.loc (V d (cV L) (jV L)) ↦{q} (Y : Buf (Elt F) ((yV).view.loc (V d (cV L) (jV L)))))
            ∗ (∃ f, (bY).view.loc (V d (cV L) (jV L)) ↦{fullShare} f)
            ∗ (∃ f, (bT).view.loc (V d (cV L) (jV L)) ↦{fullShare} f)
            ∗ (∃ f, (bS).view.loc (V d (cV L) (jV L)) ↦{fullShare} f)
            ∗ semVal (V d (cV L) (jV L), .dma cc0_scoped0.sem) 0
            ∗ after d L X Y f₀ bI0 cc0_scratch7.sem q₀ bO0 cc0_scratch9.sem 0 ∗ after d L X Y f₀ bI1 cc0_scratch8.sem q₁ bO1 cc0_scratch10.sem 1
            ∗ owing d L O) := by
  iintro ⟨#Hmw, Hy, ⟨%fY, HY⟩, ⟨%fT, HT⟩, ⟨%fS, HS⟩, Hs, HO, HR⟩
  sl_unfold [cc0_body]
  sl_exec_parts (disch := exact View.amount_pos _ _ (show 0 < S224.numel by decide))
  have hT : Fills Y 224 (body.sl.HT_14 d L Y fY) := by
    have hf : ∀ {o : ℕ} {inb : ∀ a, (![o] : Fin 1 → ℕ) a + S16.size a ≤ S224.size a} (x : S16.Idx),
        View.readAt (Elt F) (bY).view (Rect.unit (s := S224) ![o] S16.size inb).toLoadRect (View.write (Elt F) (bY).view fY (body.sl.dma0 Y) Finset.univ) x
          = Y ((Rect.unit (s := S224) ![o] S16.size inb).emb x) :=
      fun x => (congrFun (View.read_write_univ (v := (bY).view) fY (body.sl.dma0 Y)) _).trans (congrArg Y (funext fun a => Fin.ext (by rfl)))
    iterate 7
      refine Fills.store ?_ rfl rfl ?_
      · exact sixteen _ 104 (by decide) hf
    iterate 7
      refine Fills.store ?_ rfl rfl ?_
      · exact sixteen _ 0 (by decide) hf
    exact Fills.nil Y
  have hS : Fills Y 224 (body.sl.HS_224 d L Y fY) := by
    iterate 223
      refine Fills.store ?_ rfl rfl ?_
      · exact lane hT _ rfl
    refine Fills.store ?_ rfl rfl (Fills.nil Y)
    intro x
    show body.sl.v271 d L Y fY = _
    unfold body.sl.v271 k0_pay46
    exact lane hT _ rfl _
  have eS : (bS).view.writes (Elt F) fS (body.sl.HS_224 d L Y fY) = tab Y := Fills.read hS (bS).view fS
  rw [eS]
  unfold bothBefore
  icases HR with ⟨⟨⟨Hb, Hx, Hs7⟩, Ho, Hp⟩, Hz⟩
  iapply (seqOp d L (issueIn d L (img_lt L (k := 0) (by decide)) (h := 0) (by decide) (off1_eq L) q₀ X)) $$ [Hb Hx Hs7]
  · isplitl [Hx]; · iexact Hx
    isplitl [Hb]; · iexact Hb
    iexact Hs7
  iintro %_ HF
  simp only [wp_pure]
  imodintro
  iapply (seq d L (part40 d L X Y f₀ O q₀ q₁ _)) $$ [HS HF Ho Hp Hz HO]
  · isplitl [HS]; · iexact HS
    isplitl [HF Ho Hp]
    · isplitl [HF]
      · rw [inSt, dif_pos (show 0 < 24 by decide)]
        iexact HF
      isplitl [Ho]
      · rw [outSt]; iexact Ho
      iexact Hp
    isplitl [Hz]; · iexact Hz
    isplitr; · iexact Hmw
    iexists _; iexact HO
  iintro %_ ⟨HS, ⟨Hi0, Ho0, Hp0⟩, ⟨Hi1, Ho1, Hp1⟩, -, HO⟩
  ihave Hi0 := (inSt_last d L X) $$ Hi0
  ihave Hi1 := (inSt_last d L X) $$ Hi1
  iapply (seq d L (part41 d L X Y f₀ O _ _)) $$ [Ho0 Hp0 HO]
  · isplitl [Ho0]; · iexact Ho0
    isplitl [Hp0]; · iexact Hp0
    isplitr; · iexact Hmw
    iexact HO
  iintro %r ⟨Hb0, Hm0, HO⟩
  iapply (seq d L (lastWait d L X Y f₀ O)) $$ [Ho1 Hp1 HO]
  · isplitl [Ho1]; · iexact Ho1
    isplitl [Hp1]; · iexact Hp1
    isplitr; · iexact Hmw
    iexact HO
  iintro %_ ⟨Hb1, Hm1, HO⟩
  rw [wp_pure]; imodintro
  isplitl [Hy]; · iexact Hy
  isplitl [HY]; · iexists _; iexact HY
  isplitl [HT]; · iexists _; iexact HT
  isplitl [HS]; · iexists _; iexact HS
  isplitl [Hs]; · iexact Hs
  isplitl [Hi0 Hb0 Hm0]
  · isplitl [Hi0]; · iexact Hi0
    isplitl [Hb0]; · iexact Hb0
    iexact Hm0
  isplitl [Hi1 Hb1 Hm1]
  · isplitl [Hi1]; · iexact Hi1
    isplitl [Hb1]; · iexact Hb1
    iexact Hm1
  iexact HO

end Cert.Proof.Shift

end
-- ==== Proof.Task.lean ====
/-
  One task as the launch hands it out and takes it back.
-/
module

public import proofs.«01_k».proof.Proof.Tile

@[expose] public section

noncomputable section

namespace Cert.Proof.Shift

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S8x96x224x224 EltTy.f32)
local notation "yV" => (Memref.whole Cert.KernelIdeal.main_arg2_scv : Memref Cert.KernelIdeal.sig Kind.scVector Space.hbm Cert.KernelIdeal.S224 EltTy.f32)
local notation "oV" => (Memref.whole Cert.KernelIdeal.main_v0_scv : Memref Cert.KernelIdeal.sig Kind.scVector Space.hbm Cert.KernelIdeal.S8x96x224x224 EltTy.f32)
local notation "bY" => (Memref.whole Cert.KernelIdeal.cc0_scratch0 : Memref Cert.KernelIdeal.sig Kind.scVector Space.vmem Cert.KernelIdeal.S224 EltTy.f32)
local notation "bT" => (Memref.whole Cert.KernelIdeal.cc0_scratch1 : Memref Cert.KernelIdeal.sig Kind.scVector Space.vmem Cert.KernelIdeal.S224 EltTy.i32)
local notation "bS" => (Memref.whole Cert.KernelIdeal.cc0_scratch2 : Memref Cert.KernelIdeal.sig Kind.scVector Space.smem Cert.KernelIdeal.S224 EltTy.i32)
local notation "bI0" => (Memref.whole Cert.KernelIdeal.cc0_scratch3 : Memref Cert.KernelIdeal.sig Kind.scVector Space.vmem Cert.KernelIdeal.S120x224 EltTy.f32)
local notation "bI1" => (Memref.whole Cert.KernelIdeal.cc0_scratch4 : Memref Cert.KernelIdeal.sig Kind.scVector Space.vmem Cert.KernelIdeal.S120x224 EltTy.f32)
local notation "bO0" => (Memref.whole Cert.KernelIdeal.cc0_scratch5 : Memref Cert.KernelIdeal.sig Kind.scVector Space.vmem Cert.KernelIdeal.S112x224 EltTy.f32)
local notation "bO1" => (Memref.whole Cert.KernelIdeal.cc0_scratch6 : Memref Cert.KernelIdeal.sig Kind.scVector Space.vmem Cert.KernelIdeal.S112x224 EltTy.f32)

variable (m : (ℓ : Loc nD τ sig) → Buf (Elt F) ℓ)

section Task

variable (d : Dev nD) (L : grid0.Coords)

/-- The task's semaphore cells: the one of `ypos`'s copy and those of the four scratch buffers. -/
abbrev cellY (c : Fin τ.nSC) (i : Fin τ.nSub) : GSem nD τ sig := (V d c i, .dma cc0_scoped0.sem)
abbrev cellI0 (c : Fin τ.nSC) (i : Fin τ.nSub) : GSem nD τ sig := (V d c i, .dma cc0_scratch7.sem)
abbrev cellI1 (c : Fin τ.nSC) (i : Fin τ.nSub) : GSem nD τ sig := (V d c i, .dma cc0_scratch8.sem)
abbrev cellO0 (c : Fin τ.nSC) (i : Fin τ.nSub) : GSem nD τ sig := (V d c i, .dma cc0_scratch9.sem)
abbrev cellO1 (c : Fin τ.nSC) (i : Fin τ.nSub) : GSem nD τ sig := (V d c i, .dma cc0_scratch10.sem)

/-- A scoped cell of the task is among the task's own. -/
theorem mem_cells {sm : SemLoc sig} (h : sm.isScoped .scVector = true) : ((V d (cV L) (jV L), sm) : GSem nD τ sig) ∈ ownCells (V d (cV L) (jV L)) :=
  mem_ownCells.mpr ⟨rfl, h⟩

/-- Another cell of the task is not this one. -/
theorem cell_ne {a b : SemLoc sig} (h : a ≠ b) : ((V d (cV L) (jV L), a) : GSem nD τ sig) ≠ (V d (cV L) (jV L), b) := fun e => h (Prod.ext_iff.mp e).2

theorem ownSems0_V :
    (ownSems0 (V d (cV L) (jV L)) : sProp 𝕄)
      = iprop(semVal (cellY d (cV L) (jV L)) 0 ∗ semVal (cellI0 d (cV L) (jV L)) 0 ∗ semVal (cellI1 d (cV L) (jV L)) 0
          ∗ semVal (cellO0 d (cV L) (jV L)) 0 ∗ semVal (cellO1 d (cV L) (jV L)) 0
          ∗ bigSep ((((((ownCells (V d (cV L) (jV L))).erase (cellY d (cV L) (jV L))).erase (cellI0 d (cV L) (jV L))).erase (cellI1 d (cV L) (jV L))).erase
              (cellO0 d (cV L) (jV L))).erase (cellO1 d (cV L) (jV L))) fun g => semVal g 0) := by
  have hY := mem_cells d L (sm := .dma cc0_scoped0.sem) (by decide)
  have h7 := mem_cells d L (sm := .dma cc0_scratch7.sem) (by decide)
  have h8 := mem_cells d L (sm := .dma cc0_scratch8.sem) (by decide)
  have h9 := mem_cells d L (sm := .dma cc0_scratch9.sem) (by decide)
  have h10 := mem_cells d L (sm := .dma cc0_scratch10.sem) (by decide)
  unfold SparseCore.Cfg.ownSems0
  rw [SparseCore.bigSep_erase' hY,
    SparseCore.bigSep_erase' (Finset.mem_erase.mpr ⟨cell_ne d L (by decide), h7⟩),
    SparseCore.bigSep_erase' (Finset.mem_erase.mpr ⟨cell_ne d L (by decide), Finset.mem_erase.mpr ⟨cell_ne d L (by decide), h8⟩⟩),
    SparseCore.bigSep_erase' (Finset.mem_erase.mpr ⟨cell_ne d L (by decide), Finset.mem_erase.mpr ⟨cell_ne d L (by decide),
      Finset.mem_erase.mpr ⟨cell_ne d L (by decide), h9⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), h10⟩⟩⟩⟩)]

/-- The task's own buffer `r`, as a reference of the device. -/
abbrev own (r : Ref sig .scVector) : DevRef τ sig := (Proc.scVector (cV L) (jV L)).devRef r

theorem own_ne {a b : Ref sig .scVector} (h : a ≠ b) : own L a ≠ own L b := fun e => absurd (Proc.devRef_injective _ e) h

/-- The scratch buffers out of the task's own, one after another. -/
def ownRest : List (Ref sig .scVector) → Finset (DevRef τ sig)
  | [] => ownRefs (τ := τ) (.scVector (cV L) (jV L))
  | r :: rs => (ownRest rs).erase (own L r)

theorem mem_ownRest {r : Ref sig .scVector} (hr : own L r ∈ ownRefs (τ := τ) (.scVector (cV L) (jV L))) :
    ∀ rs : List (Ref sig .scVector), r ∉ rs → own L r ∈ ownRest L rs
  | [], _ => hr
  | _ :: rs, h => Finset.mem_erase.mpr ⟨own_ne L fun e => h (e ▸ List.mem_cons_self), mem_ownRest hr rs fun e => h (List.mem_cons_of_mem _ e)⟩

theorem take_own {r : Ref sig .scVector} (hr : own L r ∈ ownRefs (τ := τ) (.scVector (cV L) (jV L))) {rs : List (Ref sig .scVector)} (h : r ∉ rs) :
    (bigSep (ownRest L rs) fun b => iprop(∃ f, ((d, b) : Loc nD τ sig) ↦{fullShare} f) : sProp 𝕄)
      = iprop((∃ f, (V d (cV L) (jV L)).loc r ↦{fullShare} f) ∗ bigSep (ownRest L (r :: rs)) fun b => iprop(∃ f, ((d, b) : Loc nD τ sig) ↦{fullShare} f)) :=
  SparseCore.bigSep_erase' (mem_ownRest L hr rs h)

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ (∃ f, (V d (cV L) (jV L)).loc cc0_scratch6 ↦{fullShare} f)
          ∗ bigSep (ownRest L [cc0_scratch6, cc0_scratch5, cc0_scratch4, cc0_scratch3, cc0_scratch2, cc0_scratch1, cc0_scratch0])
              fun b => iprop(∃ f, ((d, b) : Loc nD τ sig) ↦{fullShare} f)) := by
  unfold SparseCore.Cfg.ownBufs
  refine (take_own d L (r := cc0_scratch0) (SparseCore.Cfg.mem_ownRefs_of_owner (p := Proc.scVector (cV L) (jV L)) rfl) (rs := []) (by decide)).trans ?_
  rw [take_own d L (r := cc0_scratch1) (SparseCore.Cfg.mem_ownRefs_of_owner (p := Proc.scVector (cV L) (jV L)) rfl) (by decide),
    take_own d L (r := cc0_scratch2) (SparseCore.Cfg.mem_ownRefs_of_owner (p := Proc.scVector (cV L) (jV L)) rfl) (by decide),
    take_own d L (r := cc0_scratch3) (SparseCore.Cfg.mem_ownRefs_of_owner (p := Proc.scVector (cV L) (jV L)) rfl) (by decide),
    take_own d L (r := cc0_scratch4) (SparseCore.Cfg.mem_ownRefs_of_owner (p := Proc.scVector (cV L) (jV L)) rfl) (by decide),
    take_own d L (r := cc0_scratch5) (SparseCore.Cfg.mem_ownRefs_of_owner (p := Proc.scVector (cV L) (jV L)) rfl) (by decide),
    take_own d L (r := cc0_scratch6) (SparseCore.Cfg.mem_ownRefs_of_owner (p := Proc.scVector (cV L) (jV L)) rfl) (by decide)]

/-- The task's pieces as the loop counts them. -/
theorem pieces_pcs (f : S8x96x224x224.Idx → F .f32) :
    (tilePieces d (cL L) (sL L) f : sProp 𝕄) = iprop(pcs d L (m (xLoc d)) (m (yLoc d)) f 0 0 ∗ pcs d L (m (xLoc d)) (m (yLoc d)) f 1 0) := by
  rw [← pcs_start, ← pcs_start]
  exact BI.bigSep_fin_two _

theorem pieces_mid (f : S8x96x224x224.Idx → F .f32) :
    (tilePieces d (cL L) (sL L) (outBuf m d) : sProp 𝕄) = iprop(mid d L (m (xLoc d)) (m (yLoc d)) f 0 24 ∗ mid d L (m (xLoc d)) (m (yLoc d)) f 1 24) := by
  rw [mid_last, mid_last]
  exact BI.bigSep_fin_two _

/-- The task's reading share of the input as one for each half and what is left. -/
theorem reads_two (q : PosShare TreeShare) (X : S8x96x224x224.Idx → F .f32) :
    (iprop(xLoc d ↦{q} (X : Buf (Elt F) (xLoc d))) : sProp 𝕄)
      = iprop((xLoc d ↦{shareDrop q 2} (X : Buf (Elt F) (xLoc d))) ∗ reads d L (shareTok q 2 0) X ∗ reads d L (shareTok q 2 1) X) := by
  have h := BI.Entails.antisymm (pointsTo_toks (ℓ := xLoc d) (S := Finset.univ) (f := X) (Ix := HIx 1) (Val := Elt F) (Name := ℕ) (U := UU) (Lvl := ℕ) q 2).1 (pointsTo_toks q 2).2
  rw [BI.bigSep_fin_two] at h
  exact h

theorem tile_body (hF : (K (F := F)).Facts) (O : CellTallies nD τ sig (HIx 1)) (W : Waits sig (HIx 1)) (hO : ∀ g, O g none = 0) :
    iprop(levAts (K (F := F)).L (K (F := F)).lev ∗ emp
        ∗ tilePts m d (cL L) (sL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L xV (Memref.isWhole_whole _) yV (Memref.isWhole_whole _) oV (Memref.isWhole_whole _)
            bY (Memref.isWhole_whole _) bT (Memref.isWhole_whole _) bS (Memref.isWhole_whole _) bI0 (Memref.isWhole_whole _) bI1 (Memref.isWhole_whole _)
            bO0 (Memref.isWhole_whole _) bO1 (Memref.isWhole_whole _) cc0_scratch7 cc0_scratch8 cc0_scratch9 cc0_scratch10 cc0_scoped0)
          fun _ => iprop(tilePts m d (cL L) (sL L) (outBuf m d)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold tilePts
  rw [reads_two d L, pieces_pcs m d L, pieces_mid m d L (m (oLoc d))]
  iintro ⟨#Hlv, -, ⟨⟨Hxr, Hx0, Hx1⟩, Hy, ⟨Hp0, Hp1⟩⟩, ⟨HbY, HbT, HbS, HbI0, HbI1, HbO0, HbO1, Hbufs⟩, ⟨HsY, Hs7, Hs8, Hs9, Hs10, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r _ _ _)
  isplitr [Hxr Hbufs Hsems]
  · iapply (body d L (m (xLoc d)) (m (yLoc d)) (m (oLoc d)) O (shr (cL L) (sL L)) (shareTok (shr (cL L) (sL L)) 2 0) (shareTok (shr (cL L) (sL L)) 2 1) W)
    unfold bothBefore
    isplitr; · iexact Hmw
    isplitl [Hy]; · iexact Hy
    isplitl [HbY]; · iexact HbY
    isplitl [HbT]; · iexact HbT
    isplitl [HbS]; · iexact HbS
    isplitl [HsY]; · iexact HsY
    isplitl [HO]; · iexact HO
    isplitl [HbI0 Hx0 Hs7 HbO0 Hs9 Hp0]
    · isplitl [HbI0 Hx0 Hs7]
      · isplitl [HbI0]; · iexact HbI0
        isplitl [Hx0]; · iexact Hx0
        iexact Hs7
      isplitl [HbO0 Hs9]
      · isplitl [HbO0]; · iexact HbO0
        iexact Hs9
      iexact Hp0
    isplitl [HbI1 Hx1 Hs8]
    · isplitl [HbI1]; · iexact HbI1
      isplitl [Hx1]; · iexact Hx1
      iexact Hs8
    isplitl [HbO1 Hs10]
    · isplitl [HbO1]; · iexact HbO1
      iexact Hs10
    iexact Hp1
  iintro %_ ⟨Hy, HbY, HbT, HbS, HsY, ⟨⟨HbI0, Hx0, Hs7⟩, ⟨HbO0, Hs9⟩, Hp0⟩, ⟨⟨HbI1, Hx1, Hs8⟩, ⟨HbO1, Hs10⟩, Hp1⟩, ⟨%W', HO⟩⟩
  isplitl [Hxr Hx0 Hx1 Hy Hp0 Hp1]
  · isplitl [Hxr Hx0 Hx1]
    · isplitl [Hxr]; · iexact Hxr
      isplitl [Hx0]; · iexact Hx0
      iexact Hx1
    isplitl [Hy]; · iexact Hy
    isplitl [Hp0]; · iexact Hp0
    iexact Hp1
  isplitl [HbY HbT HbS HbI0 HbI1 HbO0 HbO1 Hbufs]
  · isplitl [HbY]; · iexact HbY
    isplitl [HbT]; · iexact HbT
    isplitl [HbS]; · iexact HbS
    isplitl [HbI0]; · iexact HbI0
    isplitl [HbI1]; · iexact HbI1
    isplitl [HbO0]; · iexact HbO0
    isplitl [HbO1]; · iexact HbO1
    iexact Hbufs
  isplitl [HsY Hs7 Hs8 Hs9 Hs10 Hsems]
  · isplitl [HsY]; · iexact HsY
    isplitl [Hs7]; · iexact Hs7
    isplitl [Hs8]; · iexact Hs8
    isplitl [Hs9]; · iexact Hs9
    isplitl [Hs10]; · iexact Hs10
    iexact Hsems
  iexists _; isplitr
  swap; · iexact HO
  ipureintro; intro p _
  rcases p.2 with _ | q
  · exact .inr (.inl rfl)
  · exact .inr (.inr (congrArg some (Subsingleton.elim q 0)))

end Task

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s) xV (Memref.isWhole_whole _) yV (Memref.isWhole_whole _) oV (Memref.isWhole_whole _)
            bY (Memref.isWhole_whole _) bT (Memref.isWhole_whole _) bS (Memref.isWhole_whole _) bI0 (Memref.isWhole_whole _) bI1 (Memref.isWhole_whole _)
            bO0 (Memref.isWhole_whole _) bO1 (Memref.isWhole_whole _) cc0_scratch7 cc0_scratch8 cc0_scratch9 cc0_scratch10 cc0_scoped0) ⟨⟩ c s := rfl

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hgo : (P m).go 0 d c i = tilePts m d (cL (coordsV ⟨_, hci.1⟩ ⟨_, hci.2⟩)) (sL (coordsV ⟨_, hci.1⟩ ⟨_, hci.2⟩)) (m (oLoc d)) := rfl
  have htd : (P m).td 0 d c i = tilePts m d (cL (coordsV ⟨_, hci.1⟩ ⟨_, hci.2⟩)) (sL (coordsV ⟨_, hci.1⟩ ⟨_, hci.2⟩)) (outBuf m d) := rfl
  rw [hgo, htd]
  exact tile_body m d (coordsV ⟨_, hci.1⟩ ⟨_, hci.2⟩) hF O W hO

end Cert.Proof.Shift

end
-- ==== Proof.Launch.lean ====
/-
  The whole launch: the four arrays dealt to the thirty-two tasks and gathered again, the main program around the call, and what
  every run of the program leaves.
-/
module

public import proofs.«01_k».proof.Proof.Task

@[expose] public section

noncomputable section

namespace Cert.Proof.Shift

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.Transfers

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays dealt to the tasks -/

theorem sep_out {I : Type} (s : Finset I) (Φ Ψ : I → sProp 𝕄) : (bigSep s fun i => iprop(Φ i ∗ Ψ i)) = iprop(bigSep s Φ ∗ bigSep s Ψ) := BI.bigSep_sep s Φ Ψ

theorem emp_out {I : Type} (s : Finset I) : (bigSep s fun _ => iprop(emp)) = (iprop(emp) : sProp 𝕄) := bigSep_emp_const s

theorem shuffle (A B C D E : sProp 𝕄) : iprop((A ∗ B) ∗ (C ∗ D) ∗ E) = iprop((A ∗ C) ∗ B ∗ D ∗ E) := by
  have h : ∀ A B C D E : sProp 𝕄, iprop((A ∗ B) ∗ (C ∗ D) ∗ E) ⊢ iprop((A ∗ C) ∗ B ∗ D ∗ E) := by
    intro A B C D E
    iintro ⟨⟨Ha, Hb⟩, ⟨Hc, Hd⟩, He⟩
    isplitl [Ha Hc]
    · isplitl [Ha] <;> iassumption
    isplitl [Hb]; · iexact Hb
    isplitl [Hd]; · iexact Hd
    iexact He
  have h' : ∀ A B C D E : sProp 𝕄, iprop((A ∗ C) ∗ B ∗ D ∗ E) ⊢ iprop((A ∗ B) ∗ (C ∗ D) ∗ E) := by
    intro A B C D E
    iintro ⟨⟨Ha, Hc⟩, Hb, Hd, He⟩
    isplitl [Ha Hb]
    · isplitl [Ha] <;> iassumption
    isplitl [Hc Hd]
    · isplitl [Hc] <;> iassumption
    iexact He
  exact BI.Entails.antisymm (h A B C D E) (h' A B C D E)

/-- What stays behind of an array that every task reads. -/
def kept (ℓ : Loc nD τ sig) (f : Buf (Elt F) ℓ) : sProp 𝕄 :=
  iprop((ℓ ↦{shareDrop fullShare 2} f) ∗ bigSep Finset.univ fun c : Fin 2 => ℓ ↦{shareDrop (shareTok fullShare 2 c) 16} f)

theorem dealt (ℓ : Loc nD τ sig) (f : Buf (Elt F) ℓ) :
    (ℓ ↦{fullShare} f : sProp 𝕄) = iprop(kept ℓ f ∗ bigSep Finset.univ fun c : Fin 2 => bigSep Finset.univ fun s : Fin 16 => ℓ ↦{shr c s} f) := by
  have toks : ∀ (q : PosShare TreeShare) (n : ℕ), (ℓ ↦{q} f : sProp 𝕄)
      = iprop((ℓ ↦{shareDrop q n} f) ∗ bigSep Finset.univ fun i : Fin n => ℓ ↦{shareTok q n i} f) :=
    fun q n => BI.Entails.antisymm (pointsTo_toks q n).1 (pointsTo_toks q n).2
  rw [toks fullShare 2, BI.bigSep_congr fun c _ => toks (shareTok fullShare 2 c) 16, sep_out, kept]
  exact BI.Entails.antisymm BI.sep_assoc' BI.sep_assoc

/-- The piece of each task, half and trip. -/
abbrev pieceOf (t : Fin 2 × Fin 16 × Fin 2 × Fin 24) : Finset S8x96x224x224.Idx := piece (imgNo t.1 t.2.1 t.2.2.2) t.2.2.1

theorem pieces_disjoint : ∀ t ∈ (Finset.univ : Finset (Fin 2 × Fin 16 × Fin 2 × Fin 24)), ∀ t' ∈ (Finset.univ : Finset (Fin 2 × Fin 16 × Fin 2 × Fin 24)),
    t ≠ t' → Disjoint (pieceOf t) (pieceOf t') := by
  rintro ⟨c, s, h, k⟩ - ⟨c', s', h', k'⟩ - hne
  refine Finset.disjoint_left.mpr fun p hp hp' => hne ?_
  obtain ⟨e, e'⟩ := (Finset.mem_filter.mp hp).2
  obtain ⟨u, u'⟩ := (Finset.mem_filter.mp hp').2
  have e : (p 0).val * 96 + (p 1).val = (s.val * 2 + c.val) * 24 + k.val := e
  have u : (p 0).val * 96 + (p 1).val = (s'.val * 2 + c'.val) * 24 + k'.val := u
  have e' : (p 2).val / 112 = h.val := e'
  have u' : (p 2).val / 112 = h'.val := u'
  refine Prod.ext (Fin.ext ?_) (Prod.ext (Fin.ext ?_) (Prod.ext (Fin.ext ?_) (Fin.ext ?_))) <;> dsimp only <;> omega

set_option maxRecDepth 16384 in
theorem pieces_cover : (Finset.univ : Finset (Fin 2 × Fin 16 × Fin 2 × Fin 24)).biUnion pieceOf = Finset.univ := by
  refine Finset.eq_univ_of_forall fun p => ?_
  have h0 : (p 0).val < 8 := (p 0).isLt
  have h1 : (p 1).val < 96 := (p 1).isLt
  have h2 : (p 2).val < 224 := (p 2).isLt
  suffices h : ∀ n r : ℕ, n < 768 → r < 224 → ∃ t : Fin 2 × Fin 16 × Fin 2 × Fin 24, n = imgNo t.1 t.2.1 t.2.2.2 ∧ r / 112 = t.2.2.1.val by
    have hn : (p 0).val * 96 + (p 1).val < 768 := by omega
    refine (h _ _ hn h2).elim fun t ht => ?_
    exact Finset.mem_biUnion.mpr ⟨t, Finset.mem_univ _, Finset.mem_filter.mpr ⟨Finset.mem_univ _, ht⟩⟩
  intro n r hn hr
  refine ⟨(⟨n / 24 % 2, by omega⟩, ⟨n / 48, by omega⟩, ⟨r / 112, by omega⟩, ⟨n % 24, by omega⟩), ?_, rfl⟩
  show n = (n / 48 * 2 + n / 24 % 2) * 24 + n % 24
  omega

theorem dealt_out (d : Dev nD) (f : Buf (Elt F) (oLoc d)) :
    (oLoc d ↦{fullShare} f : sProp 𝕄) = bigSep Finset.univ fun c : Fin 2 => bigSep Finset.univ fun s : Fin 16 => tilePieces d c s f := by
  have h := pointsTo_biUnion (Ix := HIx 1) (Name := ℕ) (U := UU) (Lvl := ℕ) (q := fullShare) (f := f) Finset.univ (ℓ := oLoc d) pieceOf pieces_disjoint
  rw [pieces_cover] at h
  refine h.trans ?_
  rw [BI.bigSep_univ_prod]
  refine BI.bigSep_congr fun c _ => ?_
  rw [BI.bigSep_univ_prod]
  refine BI.bigSep_congr fun s _ => ?_
  rw [BI.bigSep_univ_prod]

/-- The input, the row shifts and the result are what stays behind and what the two cores take. -/
theorem cores (d : Dev nD) (f : Buf (Elt F) (oLoc d)) :
    (iprop((xLoc d ↦{fullShare} m (xLoc d)) ∗ (yLoc d ↦{fullShare} m (yLoc d)) ∗ (oLoc d ↦{fullShare} f)) : sProp 𝕄)
      = iprop((kept (xLoc d) (m (xLoc d)) ∗ kept (yLoc d) (m (yLoc d))) ∗ bigSep Finset.univ fun c : Fin 2 => corePts m d c f) := by
  have e : (bigSep Finset.univ fun c : Fin 2 => corePts m d c f : sProp 𝕄)
      = iprop((bigSep Finset.univ fun c : Fin 2 => bigSep Finset.univ fun s : Fin 16 => xLoc d ↦{shr c s} m (xLoc d))
        ∗ (bigSep Finset.univ fun c : Fin 2 => bigSep Finset.univ fun s : Fin 16 => yLoc d ↦{shr c s} m (yLoc d))
        ∗ bigSep Finset.univ fun c : Fin 2 => bigSep Finset.univ fun s : Fin 16 => tilePieces d c s f) := by
    rw [← sep_out, ← sep_out]
    refine BI.bigSep_congr fun c _ => ?_
    rw [← sep_out, ← sep_out]
  rw [dealt (xLoc d), dealt (yLoc d), dealt_out, e]
  exact shuffle _ _ _ _ _

theorem bigSep_tasks (Φ : Fin 16 → sProp 𝕄) :
    (bigSep Finset.univ fun i : Fin ((K (F := F)).nSub 0) => Φ (Fin.cast nSub_zero i)) = bigSep Finset.univ Φ :=
  BI.bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  BI.bigSep_congr fun _ _ => congrArg Φ (Fin.ext rfl)

/-- A core deals what it was handed to its tasks and gathers what they bring back. -/
theorem hand (Φ Ψ : Fin 16 → sProp 𝕄) :
    bigSep Finset.univ Φ ⊢ |={Set.univ}=> iprop((bigSep Finset.univ fun i : Fin ((K (F := F)).nSub 0) => Φ (Fin.cast nSub_zero i))
      ∗ ((bigSep Finset.univ fun i : Fin ((K (F := F)).nSub 0) => Ψ (Fin.cast nSub_zero i)) -∗ bigSep Finset.univ Ψ)) := by
  rw [bigSep_tasks (F := F) Φ, bigSep_tasks (F := F) Ψ]
  iintro H; imodintro
  isplitl [H]; · iexact H
  iintro H; iexact H

theorem vecSplit : (K (F := F)).VecSplit' (P m) 0 := by
  intro d c
  have hgo : (fun i => (P m).go 0 d c i) = fun i => tilePts m d (Fin.cast nCore_zero c) (Fin.cast nSub_zero i) (m (oLoc d)) := rfl
  have htd : (fun i => (P m).td 0 d c i) = fun i => tilePts m d (Fin.cast nCore_zero c) (Fin.cast nSub_zero i) (outBuf m d) := rfl
  have hst : (P m).st 0 d c = corePts m d (Fin.cast nCore_zero c) (m (oLoc d)) := rfl
  have hdn : (P m).dn 0 d c = corePts m d (Fin.cast nCore_zero c) (outBuf m d) := by unfold P; dsimp only
  rw [hgo, htd, hst, hdn]
  exact hand (fun i => tilePts m d (Fin.cast nCore_zero c) i (m (oLoc d))) (fun i => tilePts m d (Fin.cast nCore_zero c) i (outBuf m d))

/-! ## The launch's ghost state: the handshakes' rounds and nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_out]; iempintro
  rw [show (bigSep Finset.univ fun thr : Thread nD τ => bigSep Finset.univ fun q : Fin 1 => (P (F := F) m).x q thr) = bigSep Finset.univ fun _ => iprop(emp) from
    BI.bigSep_congr fun _ _ => bigSep_univ_of_subsingleton (0 : Fin 1), emp_out]
  iempintro

/-! ## The main program -/

theorem unscopedBufs_eq (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_arg1) ∗ (yLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st0_eq (d : Dev nD) :
    (bigSep Finset.univ fun c : Fin ((K (F := F)).nCore 0) => (P m).st 0 d c) = bigSep Finset.univ fun c : Fin 2 => corePts m d c (m (oLoc d)) :=
  bigSep_cores (F := F) fun c => corePts m d c (m (oLoc d))
theorem dn0_eq (d : Dev nD) :
    (bigSep Finset.univ fun c : Fin ((K (F := F)).nCore 0) => (P m).dn 0 d c) = bigSep Finset.univ fun c : Fin 2 => corePts m d c (outBuf m d) :=
  bigSep_cores (F := F) fun c => corePts m d c (outBuf m d)

/-- What device `d` holds at the end: the arguments as they were, the result computed. -/
abbrev FIN (d : Dev nD) : sProp 𝕄 :=
  iprop((aLoc d ↦{fullShare} m (aLoc d)) ∗ (xLoc d ↦{fullShare} m (xLoc d)) ∗ (yLoc d ↦{fullShare} m (yLoc d)) ∗ (oLoc d ↦{fullShare} outBuf m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ha, Hy, Ho⟩, Hts, -⟩, -⟩
  ihave H := (Entails.of_eq (cores m d (m (oLoc d)))) $$ [Hx Hy Ho]
  · isplitl [Hx]; · iexact Hx
    isplitl [Hy]; · iexact Hy
    iexact Ho
  icases H with ⟨Hk, Hc⟩
  iapply ((K (F := F)).wp_run (D (F := F)) 𝒱 (EH := EH) (P := P m) κ d 0) $$ [Hst Hc Ha Hk Hb Hts]
  isplitr; · iexact Hctx
  isplitl [Hst]; · iexact Hst
  isplitl [Hc]
  · rw [st0_eq]; iexact Hc
  iintro ⟨Hst, Hdn⟩
  ihave Hdn := (Entails.of_eq (dn0_eq m d)) $$ Hdn
  ihave H := (Entails.of_eq (cores m d (outBuf m d)).symm) $$ [Hk Hdn]
  · isplitl [Hk]; · iexact Hk
    iexact Hdn
  imodintro
  isplitl [Hst]; · iexact Hst
  isplitr [Hb Hts]
  · isplitl [Ha]; · iexact Ha
    iexact H
  isplitl [Hb] <;> iassumption

/-- What the memory shows at the end. -/
def fq (d : Dev nD) (s' : Phys nD τ sig (Elt F)) : Prop :=
  (s'.mem.mem (xLoc d) = m (xLoc d) ∧ s'.mem.mem (aLoc d) = m (aLoc d) ∧ s'.mem.mem (yLoc d) = m (yLoc d)) ∧ s'.mem.mem (oLoc d) = outBuf m d

/-- An array held whole is what the memory shows, and stays held. -/
theorem seen (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Ha, Hx, Hy, Ho⟩, HSI⟩
  ihave H := (seen s' (aLoc d) (m (aLoc d))) $$ [HSI Ha]
  · isplitl [HSI] <;> iassumption
  icases H with ⟨%ha, HSI⟩
  ihave H := (seen s' (xLoc d) (m (xLoc d))) $$ [HSI Hx]
  · isplitl [HSI] <;> iassumption
  icases H with ⟨%hx, HSI⟩
  ihave H := (seen s' (yLoc d) (m (yLoc d))) $$ [HSI Hy]
  · isplitl [HSI] <;> iassumption
  icases H with ⟨%hy, HSI⟩
  ihave H := (seen s' (oLoc d) (outBuf m d)) $$ [HSI Ho]
  · isplitl [HSI] <;> iassumption
  icases H with ⟨%ho, -⟩
  ipureintro; exact ⟨⟨hx, ha, hy⟩, ho⟩

/-! ## Every run -/

/-- What a run ends in: the arguments kept, the result computed, every semaphore at nothing. -/
def QC : PUnit × MemSt nD τ sig (Elt F) → Prop := fun r =>
  (∀ c : Dev nD, (r.2.mem (xLoc c) = m (xLoc c) ∧ r.2.mem (aLoc c) = m (aLoc c) ∧ r.2.mem (yLoc c) = m (yLoc c)) ∧ r.2.mem (oLoc c) = outBuf m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Shift

end
-- ==== Proof.Shifts.lean ====
/-
  The shift of a row as a word: what the reference's rounding towards zero and the kernel's conversion both give on a small real,
  where the clamped row then lies, and that the kernel's second clamp, to its window of 120 rows, changes nothing.
-/
module

public import proofs.«01_k».proof.Proof.Values
public import Idealize.ShloMosaic.Lib.IdealHost
public import Idealize.ShloMosaic.Lib.WordArith
public import Idealize.ShloMosaic.Lib.StableHlo.Predicate

@[expose] public section

noncomputable section

namespace Cert.Proof.Shift

open Cert.KernelIdeal
open Idealize.ShloMosaic Idealize.ShloMosaic.ValueIdx Idealize.ShloMosaic.WordArith

/-! ## Rounding -/

/-- The reference's rounding of `x` towards zero: the ceiling of a negative number, the floor of any other. -/
def towardZero (x : Ideal .f32) : Ideal .f32 :=
  Scalar.select (FloatOps.cmpf .olt x (FloatOps.ofBits .f32 0x00000000#32)) (FloatOps.hostUnary .ceil x) (FloatOps.hostUnary .floor x)

theorem towardZero_coe (r : ℝ) : towardZero (r : EReal) = ((Ideal.truncInt r : ℝ) : EReal) := by
  have h0 : (FloatOps.ofBits .f32 0x00000000#32 : Ideal .f32) = ((0 : ℝ) : EReal) := Ideal.ofBits_zero_f32
  unfold towardZero Ideal.truncInt
  rw [h0]
  by_cases h : r < 0
  · have hc : FloatOps.cmpf (F := Ideal) (φ := .f32) .olt (r : EReal) ((0 : ℝ) : EReal) = 1#1 := by
      show BitVec.ofBool (decide ((r : EReal) < ((0 : ℝ) : EReal))) = 1#1
      rw [decide_eq_true (EReal.coe_lt_coe_iff.mpr h)]; rfl
    rw [hc, select_one, if_neg (not_le.mpr h)]; rfl
  · have hc : FloatOps.cmpf (F := Ideal) (φ := .f32) .olt (r : EReal) ((0 : ℝ) : EReal) = 0#1 := by
      show BitVec.ofBool (decide ((r : EReal) < ((0 : ℝ) : EReal))) = 0#1
      rw [decide_eq_false fun hh => h (EReal.coe_lt_coe_iff.mp hh)]; rfl
    rw [hc, select_zero, if_pos (not_lt.mp h)]; rfl

theorem truncInt_bounds {r : ℝ} {n : ℕ} (h : |r| < (n : ℝ) + 1) : -(n : ℤ) ≤ Ideal.truncInt r ∧ Ideal.truncInt r ≤ n := by
  obtain ⟨h1, h2⟩ := abs_lt.mp h
  unfold Ideal.truncInt
  split
  · rename_i h0
    refine ⟨le_trans (by omega) (Int.floor_nonneg.mpr h0), ?_⟩
    have : ⌊r⌋ < (n : ℤ) + 1 := Int.floor_lt.mpr (by push_cast; exact h2)
    omega
  · rename_i h0
    have h0 : r < 0 := not_le.mp h0
    have : -((n : ℤ) + 1) < ⌈r⌉ := Int.lt_ceil.mpr (by push_cast; linarith)
    have : ⌈r⌉ ≤ 0 := Int.ceil_le.mpr (by push_cast; linarith)
    omega

/-- Both conversions of a real below `n + 1` in size give one word, that of an integer at most `n` in size. -/
theorem shift_word {x : Ideal .f32} {n : ℕ} (hn : n ≤ 8) (r : ℝ) (hx : x = (r : EReal)) (h : |r| < (n : ℝ) + 1) :
    ∃ t : ℤ, -(n : ℤ) ≤ t ∧ t ≤ n ∧ FloatOps.fptosi (F := Ideal) (φ := .f32) 32 x = BitVec.ofInt 32 t
      ∧ FloatOps.fptosi (F := Ideal) (φ := .f32) 32 (towardZero x) = BitVec.ofInt 32 t := by
  obtain ⟨h1, h2⟩ := truncInt_bounds h
  have clamp : ∀ t : ℤ, -(n : ℤ) ≤ t → t ≤ n → max (-((2 ^ 31 : ℕ) : ℤ)) (min (((2 ^ 31 : ℕ) : ℤ) - 1) t) = t := by
    intro t _ _; omega
  refine ⟨Ideal.truncInt r, h1, h2, ?_, ?_⟩
  · rw [hx]
    show BitVec.ofInt 32 (max (-((2 ^ 31 : ℕ) : ℤ)) (min (((2 ^ 31 : ℕ) : ℤ) - 1) (Ideal.truncInt r))) = _
    rw [clamp _ h1 h2]
  · rw [hx, towardZero_coe]
    have e : Ideal.truncInt ((Ideal.truncInt r : ℤ) : ℝ) = Ideal.truncInt r := by
      generalize Ideal.truncInt r = t
      unfold Ideal.truncInt
      rw [Int.floor_intCast, Int.ceil_intCast, ite_self]
    show BitVec.ofInt 32 (max (-((2 ^ 31 : ℕ) : ℤ)) (min (((2 ^ 31 : ℕ) : ℤ) - 1) (Ideal.truncInt ((Ideal.truncInt r : ℤ) : ℝ)))) = _
    rw [e, clamp _ h1 h2]

/-! ## The clamped row -/

/-- Row `r` shifted by `t` and clamped to the image. -/
theorem toNat_clamped (r : ℕ) (hr : r < 224) (t : ℤ) (h1 : -8 ≤ t) (h2 : t ≤ 8) :
    (IntOp.minsi 223#32 (IntOp.maxsi 0#32 (IntOp.addi (BitVec.ofNat 32 r) (BitVec.ofInt 32 t)))).toNat = min 223 ((r : ℤ) + t).toNat := by
  have er : (BitVec.ofNat 32 r).toInt = r := Idealize.ShloMosaic.StableHlo.Predicate.toInt_ofNat_small r (by omega)
  have et : (BitVec.ofInt 32 t).toInt = t := by
    rw [BitVec.toInt_ofInt, Int.bmod_eq_of_le (by omega) (by omega)]
  have ea : (IntOp.addi (BitVec.ofNat 32 r) (BitVec.ofInt 32 t)).toInt = r + t := by
    unfold IntOp.addi
    rw [toInt_add_of_bounds _ _ (by omega) (by omega), er, et]
  have em := toNat_maxsi_zero (IntOp.addi (BitVec.ofNat 32 r) (BitVec.ofInt 32 t))
  rw [ea] at em
  have c : (223#32 : BitVec 32).toNat = 223 := rfl
  rw [toNat_minsi_of_lt _ _ (by omega) (by rw [em]; omega), em, c]

theorem toNat_window (w : BitVec 32) (s : ℕ) (hs : s ≤ 104) (hw : s ≤ w.toNat) (hw' : w.toNat ≤ s + 119) :
    (IntOp.minsi 119#32 (IntOp.maxsi 0#32 (IntOp.subi w (BitVec.ofNat 32 s)))).toNat = w.toNat - s := by
  have es : (BitVec.ofNat 32 s).toNat = s := by rw [BitVec.toNat_ofNat]; omega
  have ea : (IntOp.subi w (BitVec.ofNat 32 s)).toNat = w.toNat - s := by
    unfold IntOp.subi
    rw [BitVec.toNat_sub, es]; omega
  have ei : (IntOp.subi w (BitVec.ofNat 32 s)).toInt = ((w.toNat - s : ℕ) : ℤ) := by
    rw [Idealize.ShloMosaic.StableHlo.Predicate.toInt_eq_toNat_of_lt (by rw [ea]; omega), ea]
  have em := toNat_maxsi_zero (IntOp.subi w (BitVec.ofNat 32 s))
  rw [ei] at em
  have c : (119#32 : BitVec 32).toNat = 119 := rfl
  rw [toNat_minsi_of_lt _ _ (by omega) (by rw [em]; omega), em, c]
  omega

/-- Under a shift of at most eight rows the row that the kernel reads is the clamped row itself. -/
theorem srcRow_val (Y : S224.Idx → Ideal .f32) (p : Fin 224) (t : ℤ) (h1 : -8 ≤ t) (h2 : t ≤ 8)
    (ht : FloatOps.fptosi 32 (FloatOps.mulf (Y (ix1 p)) (Scalar.ofBits .f32 0x3F800000#32)) = BitVec.ofInt 32 t) :
    (srcRow Y p).val = min 223 ((p.val : ℤ) + t).toNat := by
  have hp := p.isLt
  have hw := toNat_clamped p.val hp t h1 h2
  have hb : start p.val ≤ min 223 ((p.val : ℤ) + t).toNat ∧ min 223 ((p.val : ℤ) + t).toNat ≤ start p.val + 119 := by
    unfold start; split <;> omega
  have hs := start_le p.val
  have e : (tab Y (ix1 p)).toNat = min 223 ((p.val : ℤ) + t).toNat - start p.val := by
    rw [← hw] at hb ⊢
    show (IntOp.minsi 119#32 (IntOp.maxsi 0#32 (IntOp.subi (srcWord (BitVec.ofNat 32 p.val) (Y (ix1 p))) (BitVec.ofNat 32 (start p.val))))).toNat = _
    unfold srcWord
    rw [ht]
    exact toNat_window _ _ hs hb.1 hb.2
  show start p.val + (tab Y (ix1 p)).toNat = _
  omega

end Cert.Proof.Shift

end
-- ==== Proof.Taken.lean ====
/-
  The reference's result read at an index: each take is the array at the index that its words name, every word being inside the
  image, and the two clamped shifts together are the kernel's row shift when the columns stay and no row moves by nine.
-/
module

public import proofs.«01_k».proof.Proof.Shifts
public import proofs.«01_k».proof.Proof.Gen.ReferenceIdeal.Run
public import Idealize.ShloMosaic.Lib.ReduceAll

@[expose] public section

noncomputable section

namespace Cert.Proof.Shift

open Cert.ReferenceIdeal Cert.ReferenceIdeal.Facts₀
open Idealize.ShloMosaic Idealize.ShloMosaic.TcCoe Idealize.ShloMosaic.ValueIdx

/-! ## The reference's pieces -/

/-- The words of a clamped shift of positions. -/
def shifted (y : FVec Ideal S224 .f32) : IVec S224 32 :=
  minsi (broadcastInDim S224 ![] bcast_S_S224 (id (constantI S_ 32 223#32)))
    (maxsi (broadcastInDim S224 ![] bcast_S_S224 (id (constantI S_ 32 0#32)))
      (addi (iotaInDim S224 32 0)
        (fptosi 32
          (select
            (cmpf .olt (mulf y (broadcastInDim S224 ![] bcast_S_S224 (constant S_ .f32 0x3F800000#32)))
              (broadcastInDim S224 ![] bcast_S_S224 (constant S_ .f32 0x00000000#32)))
            (Host.ceil (mulf y (broadcastInDim S224 ![] bcast_S_S224 (constant S_ .f32 0x3F800000#32))))
            (Host.floor (mulf y (broadcastInDim S224 ![] bcast_S_S224 (constant S_ .f32 0x3F800000#32))))))))

/-- A take's words as a column, a negative one counted from the end. -/
def column (w : IVec S224 32) : IVec S224x1 32 :=
  broadcastInDim S224x1 ![0] bcast_S224_S224x1_0
    (select (cmpi .slt w (broadcastInDim S224 ![] bcast_S_S224 (constantI S_ 32 0#32)))
      (addi w (broadcastInDim S224 ![] bcast_S_S224 (constantI S_ 32 224#32))) w)

/-- Which of them name a position. -/
def inside (j : IVec S224x1 32) : IVec S224 1 :=
  Host.reduce IntOp.andi
    (andi (cmpi .sge j (broadcastInDim S224x1 ![] bcast_S_S224x1 (constantI S_ 32 0#32)))
      (cmpi .sle j (broadcastInDim S224x1 ![0, 1] bcast_S1x1_S224x1_0_1 (broadcastInDim S1x1 ![1] bcast_S1_S1x1_1 (constantI S1 32 223#32)))))
    (constantI S_ 1 1#1) reducesTo_S224x1_S224_d1 h_S_

/-- The take along the rows. -/
def takeRows (x : FVec Ideal S8x96x224x224 .f32) (w : IVec S224 32) : FVec Ideal S8x96x224x224 .f32 :=
  select (broadcastInDim S8x96x224x224 ![2] bcast_S224_S8x96x224x224_2 (inside (column w)))
    (Host.gather gather_S8x96x224x224_S224x1_S8x96x224x224_013_2_n_n_2_1_8961224 x (column w))
    (broadcastInDim S8x96x224x224 ![] bcast_S_S8x96x224x224 (constant S_ .f32 0x7FC00000#32))

/-- The take along the columns. -/
def takeCols (x : FVec Ideal S8x96x224x224 .f32) (w : IVec S224 32) : FVec Ideal S8x96x224x224 .f32 :=
  select (broadcastInDim S8x96x224x224 ![3] bcast_S224_S8x96x224x224_3 (inside (column w)))
    (Host.gather gather_S8x96x224x224_S224x1_S8x96x224x224_012_3_n_n_3_1_8962241 x (column w))
    (broadcastInDim S8x96x224x224 ![] bcast_S_S8x96x224x224 (constant S_ .f32 0x7FC00000#32))

set_option maxRecDepth 8192 in
/-- The reference is its two takes by the two clamped shifts. -/
theorem reference_eq (m : (ℓ : Loc nD τ sig) → Buf (Elt Ideal) ℓ) (c : Dev nD) :
    Cert.ReferenceIdeal.Value.res_out0 m c
      = takeCols (takeRows (m ((c.tc : Thread nD τ).loc main_arg0)) (shifted (m ((c.tc : Thread nD τ).loc main_arg2))))
          (shifted (m ((c.tc : Thread nD τ).loc main_arg1))) := by
  show Cert.ReferenceIdeal.Value.res_main_v15 m c = _
  unfold Cert.ReferenceIdeal.Value.res_main_v15
  rfl

/-! ## Words inside the image -/

theorem shifted_at (y : FVec Ideal S224 .f32) (p : Fin 224) :
    shifted y (ix1 p) = IntOp.minsi 223#32 (IntOp.maxsi 0#32 (IntOp.addi (BitVec.ofNat 32 p.val)
      (FloatOps.fptosi 32 (towardZero (FloatOps.mulf (y (ix1 p)) (Scalar.ofBits .f32 0x3F800000#32)))))) := rfl

theorem column_at (w : IVec S224 32) (hw : ∀ p, (w p).toNat ≤ 223) (q : S224x1.Idx) : column w q = w (ix1 (q 0)) := by
  have e : column w q = Scalar.select (IntOp.cmpi .slt (w (ix1 (q 0))) 0#32) (IntOp.addi (w (ix1 (q 0))) 224#32) (w (ix1 (q 0))) := by
    refine congrArg (fun b => Scalar.select (IntOp.cmpi .slt (w b) 0#32) (IntOp.addi (w b) 224#32) (w b)) ?_
    funext a
    match a with
    | ⟨0, _⟩ => rfl
  have h : IntOp.cmpi .slt (w (ix1 (q 0))) 0#32 ≠ 1#1 := by
    rw [Ne, StableHlo.Predicate.slt_iff_toNat (by have := hw (ix1 (q 0)); omega) (by decide)]
    exact Nat.not_lt_zero _
  rw [e, eq_zero_of_ne_one h, select_zero]

theorem inside_at (w : IVec S224 32) (hw : ∀ p, (w p).toNat ≤ 223) (p : S224.Idx) : inside (column w) p = 1#1 := by
  refine Host.reduce_andi_one _ _ _ _ _ rfl fun q => ?_
  have hq := hw (ix1 (q 0))
  have e := column_at w hw q
  show IntOp.andi (IntOp.cmpi .sge (column w q) 0#32) (IntOp.cmpi .sle (column w q) 223#32) = 1#1
  rw [e, (StableHlo.Predicate.sge_iff_toNat (by omega) (by decide)).mpr (Nat.zero_le _),
    (StableHlo.Predicate.sle_iff_toNat (by omega) (by decide)).mpr hq]
  rfl

/-! ## The two takes at an index -/

/-- A word inside the image is its own clamped value. -/
theorem clamp_word {v : BitVec 32} (hv : v.toNat ≤ 223) : min v.toInt.toNat 223 = v.toNat := by
  rw [StableHlo.Predicate.toInt_eq_toNat_of_lt (by omega)]
  omega

/-- An axis no start word names is not shifted. -/
theorem start_unnamed {sOp sI sO : Shape} (d : GatherDims sOp sI sO) {n : ℕ} (y : sO.Idx) (j : IVec sI n) (a : Fin sOp.rank)
    (h : a ∉ d.startIndexMap) : d.start y j a = 0 := dif_neg h

/-- The rows' gather reads the operand at the row its word names. -/
theorem gatherRows_at (x : FVec Ideal S8x96x224x224 .f32) (j : IVec S224x1 32) (p : S8x96x224x224.Idx) :
    Host.gather gather_S8x96x224x224_S224x1_S8x96x224x224_013_2_n_n_2_1_8961224 x j p
      = x (ix4 (p 0) (p 1) ⟨min (j (ix2 (p 2) 0)).toInt.toNat 223, by omega⟩ (p 3)) := by
  unfold Host.gather
  congr 1
  funext a
  refine Fin.ext ?_
  show GatherDims.start _ p j a + GatherDims.batchCoord _ p a + GatherDims.offCoord _ p a = _
  rw [GatherDims.batchCoord_eq_zero _ _ _ (fun h => absurd h List.not_mem_nil)]
  have cases : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases cases with rfl | rfl | rfl | rfl
  · rw [start_unnamed _ _ _ _ (show (0 : Fin 4) ∉ [(2 : Fin 4)] from by decide)]; simp only [Nat.zero_add]; rfl
  · rw [start_unnamed _ _ _ _ (show (1 : Fin 4) ∉ [(2 : Fin 4)] from by decide)]; simp only [Nat.zero_add]; rfl
  · rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg (fun q => min (j q).toInt.toNat 223) ?_
    funext b
    refine Fin.ext ?_
    match b with
    | ⟨0, _⟩ => rfl
    | ⟨1, _⟩ => rfl
  · rw [start_unnamed _ _ _ _ (show (3 : Fin 4) ∉ [(2 : Fin 4)] from by decide)]; simp only [Nat.zero_add]; rfl

/-- The columns' gather reads the operand at the column its word names. -/
theorem gatherCols_at (x : FVec Ideal S8x96x224x224 .f32) (j : IVec S224x1 32) (p : S8x96x224x224.Idx) :
    Host.gather gather_S8x96x224x224_S224x1_S8x96x224x224_012_3_n_n_3_1_8962241 x j p
      = x (ix4 (p 0) (p 1) (p 2) ⟨min (j (ix2 (p 3) 0)).toInt.toNat 223, by omega⟩) := by
  unfold Host.gather
  congr 1
  funext a
  refine Fin.ext ?_
  show GatherDims.start _ p j a + GatherDims.batchCoord _ p a + GatherDims.offCoord _ p a = _
  rw [GatherDims.batchCoord_eq_zero _ _ _ (fun h => absurd h List.not_mem_nil)]
  have cases : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases cases with rfl | rfl | rfl | rfl
  · rw [start_unnamed _ _ _ _ (show (0 : Fin 4) ∉ [(3 : Fin 4)] from by decide)]; simp only [Nat.zero_add]; rfl
  · rw [start_unnamed _ _ _ _ (show (1 : Fin 4) ∉ [(3 : Fin 4)] from by decide)]; simp only [Nat.zero_add]; rfl
  · rw [start_unnamed _ _ _ _ (show (2 : Fin 4) ∉ [(3 : Fin 4)] from by decide)]; simp only [Nat.zero_add]; rfl
  · rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg (fun q => min (j q).toInt.toNat 223) ?_
    funext b
    refine Fin.ext ?_
    match b with
    | ⟨0, _⟩ => rfl
    | ⟨1, _⟩ => rfl

theorem takeRows_at (x : FVec Ideal S8x96x224x224 .f32) (w : IVec S224 32) (hw : ∀ p, (w p).toNat ≤ 223) (p : S8x96x224x224.Idx) :
    takeRows x w p = x (ix4 (p 0) (p 1) ⟨(w (ix1 (p 2))).toNat, Nat.lt_succ_of_le (hw _)⟩ (p 3)) := by
  have e : takeRows x w p = Scalar.select (inside (column w) (ix1 (p 2)))
      (Host.gather gather_S8x96x224x224_S224x1_S8x96x224x224_013_2_n_n_2_1_8961224 x (column w) p) (Ideal.ofBits .f32 0x7FC00000#32) := by
    refine congrArg (fun b => Scalar.select (inside (column w) b) _ _) ?_
    funext a
    match a with
    | ⟨0, _⟩ => rfl
  rw [e, inside_at w hw, select_one, gatherRows_at]
  congr 2
  refine Fin.ext ?_
  show min (column w (ix2 (p 2) 0)).toInt.toNat 223 = _
  rw [column_at w hw]
  exact clamp_word (hw _)

theorem takeCols_at (x : FVec Ideal S8x96x224x224 .f32) (w : IVec S224 32) (hw : ∀ p, (w p).toNat ≤ 223) (p : S8x96x224x224.Idx) :
    takeCols x w p = x (ix4 (p 0) (p 1) (p 2) ⟨(w (ix1 (p 3))).toNat, Nat.lt_succ_of_le (hw _)⟩) := by
  have e : takeCols x w p = Scalar.select (inside (column w) (ix1 (p 3)))
      (Host.gather gather_S8x96x224x224_S224x1_S8x96x224x224_012_3_n_n_3_1_8962241 x (column w) p) (Ideal.ofBits .f32 0x7FC00000#32) := by
    refine congrArg (fun b => Scalar.select (inside (column w) b) _ _) ?_
    funext a
    match a with
    | ⟨0, _⟩ => rfl
  rw [e, inside_at w hw, select_one, gatherCols_at]
  congr 2
  refine Fin.ext ?_
  show min (column w (ix2 (p 3) 0)).toInt.toNat 223 = _
  rw [column_at w hw]
  exact clamp_word (hw _)

/-! ## Small shifts -/

/-- A position below nine in size is a finite one whose clamped shift is a whole number of at most eight places, the kernel's too. -/
theorem shifted_small (y : FVec Ideal S224 .f32) (n : ℕ) (hn : n ≤ 8) (p : Fin 224) (r : ℝ) (hy : y (ix1 p) = (r : EReal))
    (hr : |r| < (n : ℝ) + 1) : ∃ t : ℤ, -n ≤ t ∧ t ≤ n ∧
      FloatOps.fptosi 32 (FloatOps.mulf (y (ix1 p)) (Scalar.ofBits .f32 0x3F800000#32)) = BitVec.ofInt 32 t ∧
      (shifted y (ix1 p)).toNat = min 223 ((p.val : ℤ) + t).toNat := by
  have hz : FloatOps.mulf (y (ix1 p)) (Scalar.ofBits .f32 0x3F800000#32 : Ideal .f32) = (r : EReal) := by
    show (y (ix1 p) : EReal) * Ideal.ofBits .f32 0x3F800000#32 = _
    rw [Ideal.ofBits_one_f32, mul_one, hy]
  obtain ⟨t, h1, h2, h3, h4⟩ := shift_word hn r hz hr
  refine ⟨t, h1, h2, h3, ?_⟩
  rw [shifted_at, h4]
  exact toNat_clamped p.val p.isLt t (by omega) (by omega)

end Cert.Proof.Shift

end
-- ==== Proof.Same.lean ====
/-
  What the precondition says of the positions, and the value claim: under it the reference's result is the kernel's.
-/
module

public import proofs.«01_k».proof.Defs
public import proofs.«01_k».proof.Proof.Gen.Pre_small_shifts
public import proofs.«01_k».proof.Proof.Taken
public import proofs.«01_k».proof.Proof.Launch

@[expose] public section

noncomputable section

namespace Cert.Proof.Shift

open Cert.KernelIdeal
open Idealize.ShloMosaic Idealize.ShloMosaic.TcCoe Idealize.ShloMosaic.ValueIdx

/-! ## The precondition read -/

theorem nine : Ideal.ofBits .f32 0x41100000#32 = ((9 : ℝ) : EReal) := by
  simp [Ideal.ofBits, Ideal.ieee, -EReal.coe_mul]; norm_num

theorem both_one : ∀ a b : BitVec 1, IntOp.andi a b = 1#1 → a = 1#1 ∧ b = 1#1 := by decide

/-- A value smaller in size than a real is a real, that small. -/
theorem small_real (x : EReal) (c : ℝ) (h : max x (-x) < (c : EReal)) : ∃ r : ℝ, x = (r : EReal) ∧ |r| < c := by
  obtain ⟨h1, h2⟩ := max_lt_iff.mp h
  induction x with
  | bot => exact absurd h2 (by simp)
  | top => exact absurd h1 (by simp)
  | coe r =>
    rw [← EReal.coe_neg] at h2
    exact ⟨r, rfl, abs_lt.mpr ⟨by have := EReal.coe_lt_coe_iff.mp h2; linarith, EReal.coe_lt_coe_iff.mp h1⟩⟩

/-- A comparison that is one holds. -/
theorem below (x c : EReal) (h : Ideal.cmp .olt x c = 1#1) : x < c := by
  by_contra n
  simp [Ideal.cmp, n] at h

/-- Under the precondition every column position is a real below one in size and every row position one below nine. -/
theorem small_positions (X : S8x96x224x224.Idx → Ideal .f32) (A Y : S224.Idx → Ideal .f32)
    (h : Cert.Pre_small_shifts.fn (F := Ideal) X A Y = fun _ => 1#1) (p : Fin 224) :
    (∃ r : ℝ, A (ix1 p) = (r : EReal) ∧ |r| < 1) ∧ (∃ r : ℝ, Y (ix1 p) = (r : EReal) ∧ |r| < 9) := by
  haveI : Subsingleton Cert.Pre_small_shifts.S_.Idx := ⟨fun a b => funext fun i => i.elim0⟩
  have h0 := congrFun h (fun i => i.elim0)
  dsimp only [Cert.Pre_small_shifts.fn] at h0
  obtain ⟨ha, hy⟩ := both_one _ _ h0
  have ha' := below _ _ (Host.reduce_andi_all _ _ _ _ _ ha (ix1 p))
  have hy' := below _ _ (Host.reduce_andi_all _ _ _ _ _ hy (ix1 p))
  refine ⟨small_real _ 1 (lt_of_lt_of_eq ha' ?_), small_real _ 9 (lt_of_lt_of_eq hy' nine)⟩
  exact Ideal.ofBits_one_f32

/-! ## The two results -/

/-- A take of rows and then of columns whose words are the columns' own numbers reads the array at the rows' words. -/
theorem takes_at (X : S8x96x224x224.Idx → Ideal .f32) (v w : IVec S224 32) (f : Fin 224 → Fin 224)
    (hv : ∀ p : Fin 224, (v (ix1 p)).toNat = p.val) (hw : ∀ p : Fin 224, (w (ix1 p)).toNat = (f p).val) (p : S8x96x224x224.Idx) :
    takeCols (takeRows X w) v p = X (ix4 (p 0) (p 1) (f (p 2)) (p 3)) := by
  have all (u : IVec S224 32) (hu : ∀ p : Fin 224, (u (ix1 p)).toNat ≤ 223) (q : S224.Idx) : (u q).toNat ≤ 223 := by
    have e : q = ix1 (q 0) := by
      funext a
      match a with
      | ⟨0, _⟩ => rfl
    rw [e]; exact hu _
  have bv := all v fun p => by rw [hv]; have := p.isLt; omega
  have bw := all w fun p => by rw [hw]; have := (f p).isLt; omega
  refine (takeCols_at _ v bv p).trans ((takeRows_at X w bw _).trans ?_)
  have e2 : (⟨(w (ix1 (p 2))).toNat, Nat.lt_succ_of_le (bw _)⟩ : Fin 224) = f (p 2) := Fin.ext (hw (p 2))
  have e3 : (⟨(v (ix1 (p 3))).toNat, Nat.lt_succ_of_le (bv _)⟩ : Fin 224) = p 3 := Fin.ext (hv (p 3))
  exact congrArg₂ (fun a b : Fin 224 => X (ix4 (p 0) (p 1) a b)) e2 e3

/-- Both takes by the clamped shifts are the kernel's result where the positions are small. -/
theorem takes_eq_out (X : S8x96x224x224.Idx → Ideal .f32) (A Y : S224.Idx → Ideal .f32)
    (h : ∀ p, (∃ r : ℝ, A (ix1 p) = (r : EReal) ∧ |r| < 1) ∧ (∃ r : ℝ, Y (ix1 p) = (r : EReal) ∧ |r| < 9)) :
    takeCols (takeRows X (shifted Y)) (shifted A) = out X Y := by
  have hA : ∀ p : Fin 224, (shifted A (ix1 p)).toNat = p.val := fun p => by
    obtain ⟨r, e, hr⟩ := (h p).1
    obtain ⟨t, h1, h2, -, h4⟩ := shifted_small A 0 (by omega) p r e (by push_cast; linarith)
    have := p.isLt
    rw [h4]; push_cast at h1 h2; omega
  have hY : ∀ p : Fin 224, (shifted Y (ix1 p)).toNat = (srcRow Y p).val := fun p => by
    obtain ⟨r, e, hr⟩ := (h p).2
    obtain ⟨t, h1, h2, h3, h4⟩ := shifted_small Y 8 (by omega) p r e (by push_cast; linarith)
    rw [h4, srcRow_val Y p t (by exact_mod_cast h1) (by exact_mod_cast h2) h3]
  exact funext fun p => takes_at X (shifted A) (shifted Y) (srcRow Y) hA hY p

/-- The value claim. -/
theorem same : Cert.algebraic_KernelIdeal_ReferenceIdeal_pre_small_shifts := fun m g m' g' hpre hin =>
  ⟨fun c => outBuf m c,
    (θ_run Cert.KernelIdeal.defs _ _).mono (fun _ h c => ⟨(h.1 c).2, (h.1 c).1.1, (h.1 c).1.2.1, (h.1 c).1.2.2⟩) (run_main (F := Ideal) m g),
    (θ_run Cert.ReferenceIdeal.defs _ _).mono
      (fun _ h c => ⟨(h c).1.trans (by
        have e := reference_eq m' c
        refine e.trans ?_
        rw [(hin c).1, (hin c).2.1, (hin c).2.2]
        exact takes_eq_out _ _ _ (small_positions _ _ _ (hpre c))), (h c).2⟩)
      (Cert.ReferenceIdeal.Value.run (F := Ideal) m' g')⟩

end Cert.Proof.Shift

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_small_shifts
public import proofs.«01_k».proof.Proof.Gen.ReferenceIdeal.Run
public import proofs.«01_k».proof.Proof.Launch
public import proofs.«01_k».proof.Proof.Same
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ =>
  (θ_run Cert.KernelIdeal.defs _ _).mono (fun _ h => ⟨fun c => ⟨(h.1 c).1.1, (h.1 c).1.2.1, (h.1 c).1.2.2⟩, h.2⟩) (Shift.run_main (F := Bits) m ρ)

theorem frame_kernelIdeal : Cert.quiescent_KernelIdeal := fun m ρ _ =>
  (θ_run Cert.KernelIdeal.defs _ _).mono (fun _ h => ⟨fun c => ⟨(h.1 c).1.1, (h.1 c).1.2.1, (h.1 c).1.2.2⟩, h.2⟩) (Shift.run_main (F := Ideal) m ρ)

theorem frame_referenceIdeal : Cert.quiescent_ReferenceIdeal := fun m ρ _ =>
  (θ_run Cert.ReferenceIdeal.defs _ _).mono (fun _ h => ⟨fun c => (h c).2, sem_eq_zero_of_no_sems (by decide) _⟩) (Cert.ReferenceIdeal.Value.run (F := Ideal) m ρ)

theorem claim : Cert.Claim :=
  ⟨Cert.Kernel.Gen.facts, Cert.KernelIdeal.Gen.facts, Cert.ReferenceIdeal.Gen.facts, Cert.Pre_small_shifts.Gen.facts,
    frame_kernel, frame_kernelIdeal, fun m ρ _ => frame_kernelIdeal m ρ trivial,
    frame_referenceIdeal, fun m ρ _ => frame_referenceIdeal m ρ trivial, trivial, Shift.same⟩

end Cert.Proof

end
